-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "hundred_thousandth" .f32 0x3727C5AC#32 ((1 / 100000 : ℝ) : EReal)

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v517) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S1x100000x128 : Shape := ⟨3, ![1, 100000, 128]⟩
abbrev S4x4x128x128 : Shape := ⟨4, ![4, 4, 128, 128]⟩
abbrev S4x128 : Shape := ⟨2, ![4, 128]⟩
abbrev S128x128 : Shape := ⟨2, ![128, 128]⟩
abbrev S128 : Shape := ⟨1, ![128]⟩
abbrev S_ : Shape := ⟨0, ![]⟩

class Facts : Prop where
  bcast_S_S1x100000x128 : S_.BroadcastsInDim S1x100000x128 (![] : Fin 0 → Fin S1x100000x128.rank)
  reducesTo_S1x100000x128_S_d0_1_2 : S1x100000x128.ReducesTo [0, 1, 2] S_
  h_S_ : 0 < S_.numel
  bcast_S_S4x4x128x128 : S_.BroadcastsInDim S4x4x128x128 (![] : Fin 0 → Fin S4x4x128x128.rank)
  reducesTo_S4x4x128x128_S_d0_1_2_3 : S4x4x128x128.ReducesTo [0, 1, 2, 3] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg4 : FVec F S4x128 .f32) (main_arg5 : FVec F S4x128 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  main_v28

def fn {F : FTy → Type} [FloatOps F] (main_arg0 : FVec F S1x100000x128 .f32) (main_arg1 : FVec F S4x4x128x128 .f32) (main_arg2 : FVec F S4x128 .f32) (main_arg3 : FVec F S4x128 .f32) (main_arg4 : FVec F S4x128 .f32) (main_arg5 : FVec F S4x128 .f32) (main_arg6 : FVec F S128x128 .f32) (main_arg7 : FVec F S128 .f32) : IVec S_ 1 :=
  let main_v0 : FVec F S1x100000x128 .f32 := Host.absf main_arg0
  let main_cst : FVec F S_ .f32 := constant S_ .f32 0x7F800000#32
  let main_v1 : FVec F S1x100000x128 .f32 := broadcastInDim S1x100000x128 ![] bcast_S_S1x100000x128 main_cst
  let main_v2 : IVec S1x100000x128 1 := cmpf .olt main_v0 main_v1
  let main_c : IVec S_ 1 := constantI S_ 1 1#1
  let main_v3 : IVec S_ 1 := (fun x v => Host.reduce IntOp.andi x v reducesTo_S1x100000x128_S_d0_1_2 h_S_) main_v2 main_c
  let main_v4 : FVec F S4x4x128x128 .f32 := Host.absf main_arg1
  let main_cst_0 : FVec F S_ .f32 := constant S_ .f32 0x7F800000#32
  let main_v5 : FVec F S4x4x128x128 .f32 := broadcastInDim S4x4x128x128 ![] bcast_S_S4x4x128x128 main_cst_0
  let main_v6 : IVec S4x4x128x128 1 := cmpf .olt main_v4 main_v5
  let main_c_1 : IVec S_ 1 := constantI S_ 1 1#1
  let main_v7 : IVec S_ 1 := (fun x v => Host.reduce IntOp.andi x v reducesTo_S4x4x128x128_S_d0_1_2_3 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg3
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg4 main_arg5 main_v13 main_v16
-- ==== Kernel.lean ====
abbrev S1x100000x128 : Shape := ⟨3, ![1, 100000, 128]⟩
abbrev S4x4x128x128 : Shape := ⟨4, ![4, 4, 128, 128]⟩
abbrev S4x128 : Shape := ⟨2, ![4, 128]⟩
abbrev S128x128 : Shape := ⟨2, ![128, 128]⟩
abbrev S128 : Shape := ⟨1, ![128]⟩
abbrev S100000x128 : Shape := ⟨2, ![100000, 128]⟩
abbrev S_ : Shape := ⟨0, ![]⟩
abbrev S4x1x128 : Shape := ⟨3, ![4, 1, 128]⟩
abbrev S4x1x128x128 : Shape := ⟨4, ![4, 1, 128, 128]⟩
abbrev S4x128x128 : Shape := ⟨3, ![4, 128, 128]⟩
abbrev S4x128x256 : Shape := ⟨3, ![4, 128, 256]⟩
abbrev S4x768x256 : Shape := ⟨3, ![4, 768, 256]⟩
abbrev S4x256 : Shape := ⟨2, ![4, 256]⟩
abbrev S1x256 : Shape := ⟨2, ![1, 256]⟩
abbrev S1x128 : Shape := ⟨2, ![1, 128]⟩
abbrev S20000x128 : Shape := ⟨2, ![20000, 128]⟩
abbrev S4x8x256 : Shape := ⟨3, ![4, 8, 256]⟩
abbrev S10000x256 : Shape := ⟨2, ![10000, 256]⟩
abbrev S1x2x256 : Shape := ⟨3, ![1, 2, 256]⟩
abbrev S2x256 : Shape := ⟨2, ![2, 256]⟩
abbrev S10002x256 : Shape := ⟨2, ![10002, 256]⟩
abbrev S10000x768 : Shape := ⟨2, ![10000, 768]⟩
abbrev S1x768x256 : Shape := ⟨3, ![1, 768, 256]⟩
abbrev S768x256 : Shape := ⟨2, ![768, 256]⟩
abbrev S256 : Shape := ⟨1, ![256]⟩

abbrev nBuf : Space → Nat
  | .hbm => 63
  | .vmem => 10
  | .smem => 0
  | _ => 0

abbrev bufTy : (tb : Table) → Fin (tcTables nBuf tb) → BufTy
  | .hbm, ⟨0, _⟩ => ⟨S1x100000x128, .f32⟩
  | .hbm, ⟨1, _⟩ => ⟨S4x4x128x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S128x128, .f32⟩
  | .hbm, ⟨7, _⟩ => ⟨S128, .f32⟩
  | .hbm, ⟨8, _⟩ => ⟨S100000x128, .f32⟩
  | .hbm, ⟨9, _⟩ => ⟨S_, .f32⟩
  | .hbm, ⟨10, _⟩ => ⟨S4x128, .f32⟩
  | .hbm, ⟨11, _⟩ => ⟨S4x128, .f32⟩
  | .hbm, ⟨12, _⟩ => ⟨S4x1x128, .f32⟩
  | .hbm, ⟨13, _⟩ => ⟨S4x1x128x128, .f32⟩
  | .hbm, ⟨14, _⟩ => ⟨S4x128x128, .f32⟩
  | .hbm, ⟨15, _⟩ => ⟨S4x1x128x128, .f32⟩
  | .hbm, ⟨16, _⟩ => ⟨S4x128x128, .f32⟩
  | .hbm, ⟨17, _⟩ => ⟨S4x128x128, .f32⟩
  | .hbm, ⟨18, _⟩ => ⟨S4x128x128, .f32⟩
  | .hbm, ⟨19, _⟩ => ⟨S4x128x128, .f32⟩
  | .hbm, ⟨20, _⟩ => ⟨S4x1x128x128, .f32⟩
  | .hbm, ⟨21, _⟩ => ⟨S4x128x128, .f32⟩
  | .hbm, ⟨22, _⟩ => ⟨S_, .f32⟩
  | .hbm, ⟨23, _⟩ => ⟨S4x128x128, .f32⟩
  | .hbm, ⟨24, _⟩ => ⟨S4x128x128, .f32⟩
  | .hbm, ⟨25, _⟩ => ⟨S4x1x128x128, .f32⟩
  | .hbm, ⟨26, _⟩ => ⟨S4x128x128, .f32⟩
  | .hbm, ⟨27, _⟩ => ⟨S4x128x128, .f32⟩
  | .hbm, ⟨28, _⟩ => ⟨S4x128x128, .f32⟩
  | .hbm, ⟨29, _⟩ => ⟨S4x128x128, .f32⟩
  | .hbm, ⟨30, _⟩ => ⟨S4x1x128x128, .f32⟩
  | .hbm, ⟨31, _⟩ => ⟨S4x128x128, .f32⟩
  | .hbm, ⟨32, _⟩ => ⟨S_, .f32⟩
  | .hbm, ⟨33, _⟩ => ⟨S4x128x128, .f32⟩
  | .hbm, ⟨34, _⟩ => ⟨S4x128x128, .f32⟩
  | .hbm, ⟨35, _⟩ => ⟨S4x128x128, .f32⟩
  | .hbm, ⟨36, _⟩ => ⟨S4x128x128, .f32⟩
  | .hbm, ⟨37, _⟩ => ⟨S4x1x128x128, .f32⟩
  | .hbm, ⟨38, _⟩ => ⟨S4x128x128, .f32⟩
  | .hbm, ⟨39, _⟩ => ⟨S_, .f32⟩
  | .hbm, ⟨40, _⟩ => ⟨S4x128x128, .f32⟩
  | .hbm, ⟨41, _⟩ => ⟨S4x128x128, .f32⟩
  | .hbm, ⟨42, _⟩ => ⟨S4x128x128, .f32⟩
  | .hbm, ⟨43, _⟩ => ⟨S4x128x128, .f32⟩
  | .hbm, ⟨44, _⟩ => ⟨S_, .f32⟩
  | .hbm, ⟨45, _⟩ => ⟨S4x128x128, .f32⟩
  | .hbm, ⟨46, _⟩ => ⟨S4x128x256, .f32⟩
  | .hbm, ⟨47, _⟩ => ⟨S4x128x256, .f32⟩
  | .hbm, ⟨48, _⟩ => ⟨S4x128x256, .f32⟩
  | .hbm, ⟨49, _⟩ => ⟨S4x128x256, .f32⟩
  | .hbm, ⟨50, _⟩ => ⟨S4x128x256, .f32⟩
  | .hbm, ⟨51, _⟩ => ⟨S4x128x256, .f32⟩
  | .hbm, ⟨52, _⟩ => ⟨S4x768x256, .f32⟩
  | .hbm, ⟨53, _⟩ => ⟨S_, .f32⟩
  | .hbm, ⟨54, _⟩ => ⟨S4x128, .f32⟩
  | .hbm, ⟨55, _⟩ => ⟨S4x128, .f32⟩
  | .hbm, ⟨56, _⟩ => ⟨S4x128, .f32⟩
  | .hbm, ⟨57, _⟩ => ⟨S4x256, .f32⟩
  | .hbm, ⟨58, _⟩ => ⟨S4x256, .f32⟩
  | .hbm, ⟨59, _⟩ => ⟨S4x256, .f32⟩
  | .hbm, ⟨60, _⟩ => ⟨S1x256, .f32⟩
  | .hbm, ⟨61, _⟩ => ⟨S1x128, .f32⟩
  | .hbm, ⟨62, _⟩ => ⟨S128, .f32⟩
  | .local _ .vmem, ⟨0, _⟩ => ⟨S20000x128, .f32⟩
  | .local _ .vmem, ⟨1, _⟩ => ⟨S20000x128, .f32⟩
  | .local _ .vmem, ⟨2, _⟩ => ⟨S4x768x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S128x128, .f32⟩
  | .local _ .vmem, ⟨7, _⟩ => ⟨S128, .f32⟩
  | .local _ .vmem, ⟨8, _⟩ => ⟨S1x256, .f32⟩
  | .local _ .vmem, ⟨9, _⟩ => ⟨S4x8x256, .f32⟩
  | _, _ => ⟨S1x100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_cst_0 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_cst_1 : Ref sig .tc := ⟨.hbm, 32, rfl⟩
abbrev main_call0_v22 : Ref sig .tc := ⟨.hbm, 33, rfl⟩
abbrev main_call0_v23 : Ref sig .tc := ⟨.hbm, 34, rfl⟩
abbrev main_call0_v24 : Ref sig .tc := ⟨.hbm, 35, rfl⟩
abbrev main_call0_v25 : Ref sig .tc := ⟨.hbm, 36, rfl⟩
abbrev main_call0_v26 : Ref sig .tc := ⟨.hbm, 37, rfl⟩
abbrev main_call0_v27 : Ref sig .tc := ⟨.hbm, 38, rfl⟩
abbrev main_call0_cst_2 : Ref sig .tc := ⟨.hbm, 39, rfl⟩
abbrev main_call0_v28 : Ref sig .tc := ⟨.hbm, 40, rfl⟩
abbrev main_call0_v29 : Ref sig .tc := ⟨.hbm, 41, rfl⟩
abbrev main_call0_v30 : Ref sig .tc := ⟨.hbm, 42, rfl⟩
abbrev main_call0_v31 : Ref sig .tc := ⟨.hbm, 43, rfl⟩
abbrev main_call0_cst_3 : Ref sig .tc := ⟨.hbm, 44, rfl⟩
abbrev main_call0_v32 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_v37 : Ref sig .tc := ⟨.hbm, 50, rfl⟩
abbrev main_call0_v38 : Ref sig .tc := ⟨.hbm, 51, rfl⟩
abbrev main_call0_v39 : Ref sig .tc := ⟨.hbm, 52, rfl⟩
abbrev main_call0_cst_4 : Ref sig .tc := ⟨.hbm, 53, rfl⟩
abbrev main_call0_v40 : Ref sig .tc := ⟨.hbm, 54, rfl⟩
abbrev main_call0_v41 : Ref sig .tc := ⟨.hbm, 55, rfl⟩
abbrev main_call0_v42 : Ref sig .tc := ⟨.hbm, 56, rfl⟩
abbrev main_call0_v43 : Ref sig .tc := ⟨.hbm, 57, rfl⟩
abbrev main_call0_v44 : Ref sig .tc := ⟨.hbm, 58, rfl⟩
abbrev main_call0_v45 : Ref sig .tc := ⟨.hbm, 59, rfl⟩
abbrev main_call0_v46 : Ref sig .tc := ⟨.hbm, 60, rfl⟩
abbrev main_call0_v47 : Ref sig .tc := ⟨.hbm, 61, rfl⟩
abbrev main_v0 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "hundred_thousandth" => some ((1 / 100000 : ℝ) : EReal)
  | _ => none
-- ==== ReferenceIdeal.lean ====
abbrev S1x100000x128 : Shape := ⟨3, ![1, 100000, 128]⟩
abbrev S4x4x128x128 : Shape := ⟨4, ![4, 4, 128, 128]⟩
abbrev S4x128 : Shape := ⟨2, ![4, 128]⟩
abbrev S128x128 : Shape := ⟨2, ![128, 128]⟩
abbrev S128 : Shape := ⟨1, ![128]⟩
abbrev S99999 : Shape := ⟨1, ![99999]⟩
abbrev S_ : Shape := ⟨0, ![]⟩
abbrev S100000 : Shape := ⟨1, ![100000]⟩
abbrev S99999x1 : Shape := ⟨2, ![99999, 1]⟩
abbrev S199999 : Shape := ⟨1, ![199999]⟩
abbrev S1x4x128x128 : Shape := ⟨4, ![1, 4, 128, 128]⟩
abbrev S4x128x128 : Shape := ⟨3, ![4, 128, 128]⟩
abbrev S1x128 : Shape := ⟨2, ![1, 128]⟩
abbrev S1x128x128 : Shape := ⟨3, ![1, 128, 128]⟩
abbrev S199999x1 : Shape := ⟨2, ![199999, 1]⟩
abbrev S1x199999x128 : Shape := ⟨3, ![1, 199999, 128]⟩
abbrev S1x199999x1 : Shape := ⟨3, ![1, 199999, 1]⟩
abbrev S1x1x128 : Shape := ⟨3, ![1, 1, 128]⟩
abbrev S100000x128 : Shape := ⟨2, ![100000, 128]⟩

abbrev nBuf : Space → Nat
  | .hbm => 660
  | .vmem => 0
  | .smem => 0
  | _ => 0

abbrev hbmTy0_0 (i : Nat) : BufTy := match i % 128 with
  | 0 => ⟨S1x100000x128, .f32⟩
  | 1 => ⟨S4x4x128x128, .f32⟩
  | 2 => ⟨S4x128, .f32⟩
  | 3 => ⟨S4x128, .f32⟩
  | 4 => ⟨S4x128, .f32⟩
  | 5 => ⟨S4x128, .f32⟩
  | 6 => ⟨S128x128, .f32⟩
  | 7 => ⟨S128, .f32⟩
  | 8 => ⟨S99999, .i32⟩
  | 9 => ⟨S99999, .i32⟩
  | 10 => ⟨S_, .i32⟩
  | 11 => ⟨S99999, .i32⟩
  | 12 => ⟨S99999, .i32⟩
  | 13 => ⟨S_, .f32⟩
  | 14 => ⟨S99999, .f32⟩
  | 15 => ⟨S_, .f32⟩
  | 16 => ⟨S100000, .f32⟩
  | 17 => ⟨S_, .i32⟩
  | 18 => ⟨S99999, .i32⟩
  | 19 => ⟨S99999, .i1⟩
  | 20 => ⟨S_, .i32⟩
  | 21 => ⟨S99999, .i32⟩
  | 22 => ⟨S99999, .i32⟩
  | 23 => ⟨S99999, .i32⟩
  | 24 => ⟨S99999x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .i1⟩
  | 32 => ⟨S_, .f32⟩
  | 33 => ⟨S_, .f32⟩
  | 34 => ⟨S100000, .f32⟩
  | 35 => ⟨S100000, .f32⟩
  | 36 => ⟨S100000, .f32⟩
  | 37 => ⟨S_, .f32⟩
  | 38 => ⟨S100000, .f32⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S99999, .i32⟩
  | 46 => ⟨S99999, .i1⟩
  | 47 => ⟨S_, .i32⟩
  | 48 => ⟨S99999, .i32⟩
  | 49 => ⟨S99999, .i32⟩
  | 50 => ⟨S99999, .i32⟩
  | 51 => ⟨S99999x1, .i32⟩
  | 52 => ⟨S99999, .f32⟩
  | 53 => ⟨S99999, .f32⟩
  | 54 => ⟨S_, .i32⟩
  | 55 => ⟨S99999, .i32⟩
  | 56 => ⟨S99999, .i1⟩
  | 57 => ⟨S_, .i32⟩
  | 58 => ⟨S99999, .i32⟩
  | 59 => ⟨S99999, .i32⟩
  | 60 => ⟨S99999, .i32⟩
  | 61 => ⟨S99999x1, .i32⟩
  | 62 => ⟨S99999, .f32⟩
  | 63 => ⟨S99999, .f32⟩
  | 64 => ⟨S100000, .i32⟩
  | 65 => ⟨S199999, .i32⟩
  | 66 => ⟨S100000, .i32⟩
  | 67 => ⟨S199999, .i32⟩
  | 68 => ⟨S99999, .f32⟩
  | 69 => ⟨S_, .f32⟩
  | 70 => ⟨S100000, .f32⟩
  | 71 => ⟨S199999, .f32⟩
  | 72 => ⟨S1x4x128x128, .f32⟩
  | 73 => ⟨S4x128x128, .f32⟩
  | 74 => ⟨S1x128, .f32⟩
  | 75 => ⟨S128, .f32⟩
  | 76 => ⟨S1x128x128, .f32⟩
  | 77 => ⟨S128x128, .f32⟩
  | 78 => ⟨S1x100000x128, .f32⟩
  | 79 => ⟨S_, .i32⟩
  | 80 => ⟨S199999, .i32⟩
  | 81 => ⟨S199999, .i1⟩
  | 82 => ⟨S_, .i32⟩
  | 83 => ⟨S199999, .i32⟩
  | 84 => ⟨S199999, .i32⟩
  | 85 => ⟨S199999, .i32⟩
  | 86 => ⟨S199999x1, .i32⟩
  | 87 => ⟨S1x199999x128, .f32⟩
  | 88 => ⟨S1x199999x1, .f32⟩
  | 89 => ⟨S1x199999x128, .f32⟩
  | 90 => ⟨S1x199999x128, .f32⟩
  | 91 => ⟨S_, .f32⟩
  | 92 => ⟨S1x100000x128, .f32⟩
  | 93 => ⟨S_, .i32⟩
  | 94 => ⟨S199999, .i32⟩
  | 95 => ⟨S199999, .i1⟩
  | 96 => ⟨S_, .i32⟩
  | 97 => ⟨S199999, .i32⟩
  | 98 => ⟨S199999, .i32⟩
  | 99 => ⟨S199999, .i32⟩
  | 100 => ⟨S199999x1, .i32⟩
  | 101 => ⟨S1x100000x128, .f32⟩
  | 102 => ⟨S1x128x128, .f32⟩
  | 103 => ⟨S128x128, .f32⟩
  | 104 => ⟨S1x100000x128, .f32⟩
  | 105 => ⟨S1x100000x128, .f32⟩
  | 106 => ⟨S_, .i32⟩
  | 107 => ⟨S199999, .i32⟩
  | 108 => ⟨S199999, .i1⟩
  | 109 => ⟨S_, .i32⟩
  | 110 => ⟨S199999, .i32⟩
  | 111 => ⟨S199999, .i32⟩
  | 112 => ⟨S199999, .i32⟩
  | 113 => ⟨S199999x1, .i32⟩
  | 114 => ⟨S1x199999x128, .f32⟩
  | 115 => ⟨S1x199999x1, .f32⟩
  | 116 => ⟨S1x199999x128, .f32⟩
  | 117 => ⟨S1x199999x128, .f32⟩
  | 118 => ⟨S_, .f32⟩
  | 119 => ⟨S1x100000x128, .f32⟩
  | 120 => ⟨S_, .i32⟩
  | 121 => ⟨S199999, .i32⟩
  | 122 => ⟨S199999, .i1⟩
  | 123 => ⟨S_, .i32⟩
  | 124 => ⟨S199999, .i32⟩
  | 125 => ⟨S199999, .i32⟩
  | 126 => ⟨S199999, .i32⟩
  | 127 => ⟨S199999x1, .i32⟩
  | _ => ⟨S1x100000x128, .f32⟩

abbrev hbmTy0_1 (i : Nat) : BufTy := match i % 128 with
  | 0 => ⟨S1x100000x128, .f32⟩
  | 1 => ⟨S_, .f32⟩
  | 2 => ⟨S1x100000x128, .f32⟩
  | 3 => ⟨S1x100000x128, .f32⟩
  | 4 => ⟨S1x100000x128, .f32⟩
  | 5 => ⟨S1x128x128, .f32⟩
  | 6 => ⟨S128x128, .f32⟩
  | 7 => ⟨S1x100000x128, .f32⟩
  | 8 => ⟨S1x100000x128, .f32⟩
  | 9 => ⟨S_, .i32⟩
  | 10 => ⟨S199999, .i32⟩
  | 11 => ⟨S199999, .i1⟩
  | 12 => ⟨S_, .i32⟩
  | 13 => ⟨S199999, .i32⟩
  | 14 => ⟨S199999, .i32⟩
  | 15 => ⟨S199999, .i32⟩
  | 16 => ⟨S199999x1, .i32⟩
  | 17 => ⟨S1x199999x128, .f32⟩
  | 18 => ⟨S1x199999x1, .f32⟩
  | 19 => ⟨S1x199999x128, .f32⟩
  | 20 => ⟨S1x199999x128, .f32⟩
  | 21 => ⟨S_, .f32⟩
  | 22 => ⟨S1x100000x128, .f32⟩
  | 23 => ⟨S_, .i32⟩
  | 24 => ⟨S199999, .i32⟩
  | 25 => ⟨S199999, .i1⟩
  | 26 => ⟨S_, .i32⟩
  | 27 => ⟨S199999, .i32⟩
  | 28 => ⟨S199999, .i32⟩
  | 29 => ⟨S199999, .i32⟩
  | 30 => ⟨S199999x1, .i32⟩
  | 31 => ⟨S1x100000x128, .f32⟩
  | 32 => ⟨S_, .f32⟩
  | 33 => ⟨S1x100000x128, .f32⟩
  | 34 => ⟨S1x100000x128, .f32⟩
  | 35 => ⟨S1x100000x128, .f32⟩
  | 36 => ⟨S1x128x128, .f32⟩
  | 37 => ⟨S128x128, .f32⟩
  | 38 => ⟨S1x100000x128, .f32⟩
  | 39 => ⟨S1x100000x128, .f32⟩
  | 40 => ⟨S1x1x128, .f32⟩
  | 41 => ⟨S1x100000x128, .f32⟩
  | 42 => ⟨S1x100000x128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S128, .f32⟩
  | 49 => ⟨S_, .f32⟩
  | 50 => ⟨S_, .f32⟩
  | 51 => ⟨S_, .f32⟩
  | 52 => ⟨S_, .f32⟩
  | 53 => ⟨S100000x128, .f32⟩
  | 54 => ⟨S1x100000x128, .f32⟩
  | 55 => ⟨S_, .f32⟩
  | 56 => ⟨S1x100000x128, .f32⟩
  | 57 => ⟨S1x100000x128, .f32⟩
  | 58 => ⟨S1x1x128, .f32⟩
  | 59 => ⟨S1x100000x128, .f32⟩
  | 60 => ⟨S1x100000x128, .f32⟩
  | 61 => ⟨S1x100000x128, .f32⟩
  | 62 => ⟨S1x100000x128, .f32⟩
  | 63 => ⟨S_, .f32⟩
  | 64 => ⟨S100000x128, .f32⟩
  | 65 => ⟨S1x100000x128, .f32⟩
  | 66 => ⟨S_, .f32⟩
  | 67 => ⟨S1x100000x128, .f32⟩
  | 68 => ⟨S1x100000x128, .f32⟩
  | 69 => ⟨S1x100000x128, .f32⟩
  | 70 => ⟨S1x100000x128, .f32⟩
  | 71 => ⟨S1x100000x128, .f32⟩
  | 72 => ⟨S1x1x128, .f32⟩
  | 73 => ⟨S1x100000x128, .f32⟩
  | 74 => ⟨S1x100000x128, .f32⟩
  | 75 => ⟨S1x100000x128, .f32⟩
  | 76 => ⟨S1x1x128, .f32⟩
  | 77 => ⟨S1x100000x128, .f32⟩
  | 78 => ⟨S1x100000x128, .f32⟩
  | 79 => ⟨S_, .f32⟩
  | 80 => ⟨S1x100000x128, .f32⟩
  | 81 => ⟨S1x100000x128, .i1⟩
  | 82 => ⟨S_, .f32⟩
  | 83 => ⟨S1x100000x128, .f32⟩
  | 84 => ⟨S1x100000x128, .f32⟩
  | 85 => ⟨S1x100000x128, .f32⟩
  | 86 => ⟨S1x4x128x128, .f32⟩
  | 87 => ⟨S4x128x128, .f32⟩
  | 88 => ⟨S1x128, .f32⟩
  | 89 => ⟨S128, .f32⟩
  | 90 => ⟨S1x128x128, .f32⟩
  | 91 => ⟨S128x128, .f32⟩
  | 92 => ⟨S1x100000x128, .f32⟩
  | 93 => ⟨S_, .i32⟩
  | 94 => ⟨S199999, .i32⟩
  | 95 => ⟨S199999, .i1⟩
  | 96 => ⟨S_, .i32⟩
  | 97 => ⟨S199999, .i32⟩
  | 98 => ⟨S199999, .i32⟩
  | 99 => ⟨S199999, .i32⟩
  | 100 => ⟨S199999x1, .i32⟩
  | 101 => ⟨S1x199999x128, .f32⟩
  | 102 => ⟨S1x199999x1, .f32⟩
  | 103 => ⟨S1x199999x128, .f32⟩
  | 104 => ⟨S1x199999x128, .f32⟩
  | 105 => ⟨S_, .f32⟩
  | 106 => ⟨S1x100000x128, .f32⟩
  | 107 => ⟨S_, .i32⟩
  | 108 => ⟨S199999, .i32⟩
  | 109 => ⟨S199999, .i1⟩
  | 110 => ⟨S_, .i32⟩
  | 111 => ⟨S199999, .i32⟩
  | 112 => ⟨S199999, .i32⟩
  | 113 => ⟨S199999, .i32⟩
  | 114 => ⟨S199999x1, .i32⟩
  | 115 => ⟨S1x100000x128, .f32⟩
  | 116 => ⟨S1x128x128, .f32⟩
  | 117 => ⟨S128x128, .f32⟩
  | 118 => ⟨S1x100000x128, .f32⟩
  | 119 => ⟨S1x100000x128, .f32⟩
  | 120 => ⟨S_, .i32⟩
  | 121 => ⟨S199999, .i32⟩
  | 122 => ⟨S199999, .i1⟩
  | 123 => ⟨S_, .i32⟩
  | 124 => ⟨S199999, .i32⟩
  | 125 => ⟨S199999, .i32⟩
  | 126 => ⟨S199999, .i32⟩
  | 127 => ⟨S199999x1, .i32⟩
  | _ => ⟨S1x100000x128, .f32⟩

abbrev hbmTy0_2 (i : Nat) : BufTy := match i % 128 with
  | 0 => ⟨S1x199999x128, .f32⟩
  | 1 => ⟨S1x199999x1, .f32⟩
  | 2 => ⟨S1x199999x128, .f32⟩
  | 3 => ⟨S1x199999x128, .f32⟩
  | 4 => ⟨S_, .f32⟩
  | 5 => ⟨S1x100000x128, .f32⟩
  | 6 => ⟨S_, .i32⟩
  | 7 => ⟨S199999, .i32⟩
  | 8 => ⟨S199999, .i1⟩
  | 9 => ⟨S_, .i32⟩
  | 10 => ⟨S199999, .i32⟩
  | 11 => ⟨S199999, .i32⟩
  | 12 => ⟨S199999, .i32⟩
  | 13 => ⟨S199999x1, .i32⟩
  | 14 => ⟨S1x100000x128, .f32⟩
  | 15 => ⟨S_, .f32⟩
  | 16 => ⟨S1x100000x128, .f32⟩
  | 17 => ⟨S1x100000x128, .f32⟩
  | 18 => ⟨S1x100000x128, .f32⟩
  | 19 => ⟨S1x128x128, .f32⟩
  | 20 => ⟨S128x128, .f32⟩
  | 21 => ⟨S1x100000x128, .f32⟩
  | 22 => ⟨S1x100000x128, .f32⟩
  | 23 => ⟨S_, .i32⟩
  | 24 => ⟨S199999, .i32⟩
  | 25 => ⟨S199999, .i1⟩
  | 26 => ⟨S_, .i32⟩
  | 27 => ⟨S199999, .i32⟩
  | 28 => ⟨S199999, .i32⟩
  | 29 => ⟨S199999, .i32⟩
  | 30 => ⟨S199999x1, .i32⟩
  | 31 => ⟨S1x199999x128, .f32⟩
  | 32 => ⟨S1x199999x1, .f32⟩
  | 33 => ⟨S1x199999x128, .f32⟩
  | 34 => ⟨S1x199999x128, .f32⟩
  | 35 => ⟨S_, .f32⟩
  | 36 => ⟨S1x100000x128, .f32⟩
  | 37 => ⟨S_, .i32⟩
  | 38 => ⟨S199999, .i32⟩
  | 39 => ⟨S199999, .i1⟩
  | 40 => ⟨S_, .i32⟩
  | 41 => ⟨S199999, .i32⟩
  | 42 => ⟨S199999, .i32⟩
  | 43 => ⟨S199999, .i32⟩
  | 44 => ⟨S199999x1, .i32⟩
  | 45 => ⟨S1x100000x128, .f32⟩
  | 46 => ⟨S_, .f32⟩
  | 47 => ⟨S1x100000x128, .f32⟩
  | 48 => ⟨S1x100000x128, .f32⟩
  | 49 => ⟨S1x100000x128, .f32⟩
  | 50 => ⟨S1x128x128, .f32⟩
  | 51 => ⟨S128x128, .f32⟩
  | 52 => ⟨S1x100000x128, .f32⟩
  | 53 => ⟨S1x100000x128, .f32⟩
  | 54 => ⟨S1x1x128, .f32⟩
  | 55 => ⟨S1x100000x128, .f32⟩
  | 56 => ⟨S1x100000x128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S128, .f32⟩
  | 63 => ⟨S_, .f32⟩
  | 64 => ⟨S_, .f32⟩
  | 65 => ⟨S_, .f32⟩
  | 66 => ⟨S_, .f32⟩
  | 67 => ⟨S100000x128, .f32⟩
  | 68 => ⟨S1x100000x128, .f32⟩
  | 69 => ⟨S_, .f32⟩
  | 70 => ⟨S1x100000x128, .f32⟩
  | 71 => ⟨S1x100000x128, .f32⟩
  | 72 => ⟨S1x1x128, .f32⟩
  | 73 => ⟨S1x100000x128, .f32⟩
  | 74 => ⟨S1x100000x128, .f32⟩
  | 75 => ⟨S1x100000x128, .f32⟩
  | 76 => ⟨S1x100000x128, .f32⟩
  | 77 => ⟨S_, .f32⟩
  | 78 => ⟨S100000x128, .f32⟩
  | 79 => ⟨S1x100000x128, .f32⟩
  | 80 => ⟨S_, .f32⟩
  | 81 => ⟨S1x100000x128, .f32⟩
  | 82 => ⟨S1x100000x128, .f32⟩
  | 83 => ⟨S1x100000x128, .f32⟩
  | 84 => ⟨S1x100000x128, .f32⟩
  | 85 => ⟨S1x100000x128, .f32⟩
  | 86 => ⟨S1x1x128, .f32⟩
  | 87 => ⟨S1x100000x128, .f32⟩
  | 88 => ⟨S1x100000x128, .f32⟩
  | 89 => ⟨S1x100000x128, .f32⟩
  | 90 => ⟨S1x1x128, .f32⟩
  | 91 => ⟨S1x100000x128, .f32⟩
  | 92 => ⟨S1x100000x128, .f32⟩
  | 93 => ⟨S_, .f32⟩
  | 94 => ⟨S1x100000x128, .f32⟩
  | 95 => ⟨S1x100000x128, .i1⟩
  | 96 => ⟨S_, .f32⟩
  | 97 => ⟨S1x100000x128, .f32⟩
  | 98 => ⟨S1x100000x128, .f32⟩
  | 99 => ⟨S1x100000x128, .f32⟩
  | 100 => ⟨S1x4x128x128, .f32⟩
  | 101 => ⟨S4x128x128, .f32⟩
  | 102 => ⟨S1x128, .f32⟩
  | 103 => ⟨S128, .f32⟩
  | 104 => ⟨S1x128x128, .f32⟩
  | 105 => ⟨S128x128, .f32⟩
  | 106 => ⟨S1x100000x128, .f32⟩
  | 107 => ⟨S_, .i32⟩
  | 108 => ⟨S199999, .i32⟩
  | 109 => ⟨S199999, .i1⟩
  | 110 => ⟨S_, .i32⟩
  | 111 => ⟨S199999, .i32⟩
  | 112 => ⟨S199999, .i32⟩
  | 113 => ⟨S199999, .i32⟩
  | 114 => ⟨S199999x1, .i32⟩
  | 115 => ⟨S1x199999x128, .f32⟩
  | 116 => ⟨S1x199999x1, .f32⟩
  | 117 => ⟨S1x199999x128, .f32⟩
  | 118 => ⟨S1x199999x128, .f32⟩
  | 119 => ⟨S_, .f32⟩
  | 120 => ⟨S1x100000x128, .f32⟩
  | 121 => ⟨S_, .i32⟩
  | 122 => ⟨S199999, .i32⟩
  | 123 => ⟨S199999, .i1⟩
  | 124 => ⟨S_, .i32⟩
  | 125 => ⟨S199999, .i32⟩
  | 126 => ⟨S199999, .i32⟩
  | 127 => ⟨S199999, .i32⟩
  | _ => ⟨S1x100000x128, .f32⟩

abbrev hbmTy0_3 (i : Nat) : BufTy := match i % 128 with
  | 0 => ⟨S199999x1, .i32⟩
  | 1 => ⟨S1x100000x128, .f32⟩
  | 2 => ⟨S1x128x128, .f32⟩
  | 3 => ⟨S128x128, .f32⟩
  | 4 => ⟨S1x100000x128, .f32⟩
  | 5 => ⟨S1x100000x128, .f32⟩
  | 6 => ⟨S_, .i32⟩
  | 7 => ⟨S199999, .i32⟩
  | 8 => ⟨S199999, .i1⟩
  | 9 => ⟨S_, .i32⟩
  | 10 => ⟨S199999, .i32⟩
  | 11 => ⟨S199999, .i32⟩
  | 12 => ⟨S199999, .i32⟩
  | 13 => ⟨S199999x1, .i32⟩
  | 14 => ⟨S1x199999x128, .f32⟩
  | 15 => ⟨S1x199999x1, .f32⟩
  | 16 => ⟨S1x199999x128, .f32⟩
  | 17 => ⟨S1x199999x128, .f32⟩
  | 18 => ⟨S_, .f32⟩
  | 19 => ⟨S1x100000x128, .f32⟩
  | 20 => ⟨S_, .i32⟩
  | 21 => ⟨S199999, .i32⟩
  | 22 => ⟨S199999, .i1⟩
  | 23 => ⟨S_, .i32⟩
  | 24 => ⟨S199999, .i32⟩
  | 25 => ⟨S199999, .i32⟩
  | 26 => ⟨S199999, .i32⟩
  | 27 => ⟨S199999x1, .i32⟩
  | 28 => ⟨S1x100000x128, .f32⟩
  | 29 => ⟨S_, .f32⟩
  | 30 => ⟨S1x100000x128, .f32⟩
  | 31 => ⟨S1x100000x128, .f32⟩
  | 32 => ⟨S1x100000x128, .f32⟩
  | 33 => ⟨S1x128x128, .f32⟩
  | 34 => ⟨S128x128, .f32⟩
  | 35 => ⟨S1x100000x128, .f32⟩
  | 36 => ⟨S1x100000x128, .f32⟩
  | 37 => ⟨S_, .i32⟩
  | 38 => ⟨S199999, .i32⟩
  | 39 => ⟨S199999, .i1⟩
  | 40 => ⟨S_, .i32⟩
  | 41 => ⟨S199999, .i32⟩
  | 42 => ⟨S199999, .i32⟩
  | 43 => ⟨S199999, .i32⟩
  | 44 => ⟨S199999x1, .i32⟩
  | 45 => ⟨S1x199999x128, .f32⟩
  | 46 => ⟨S1x199999x1, .f32⟩
  | 47 => ⟨S1x199999x128, .f32⟩
  | 48 => ⟨S1x199999x128, .f32⟩
  | 49 => ⟨S_, .f32⟩
  | 50 => ⟨S1x100000x128, .f32⟩
  | 51 => ⟨S_, .i32⟩
  | 52 => ⟨S199999, .i32⟩
  | 53 => ⟨S199999, .i1⟩
  | 54 => ⟨S_, .i32⟩
  | 55 => ⟨S199999, .i32⟩
  | 56 => ⟨S199999, .i32⟩
  | 57 => ⟨S199999, .i32⟩
  | 58 => ⟨S199999x1, .i32⟩
  | 59 => ⟨S1x100000x128, .f32⟩
  | 60 => ⟨S_, .f32⟩
  | 61 => ⟨S1x100000x128, .f32⟩
  | 62 => ⟨S1x100000x128, .f32⟩
  | 63 => ⟨S1x100000x128, .f32⟩
  | 64 => ⟨S1x128x128, .f32⟩
  | 65 => ⟨S128x128, .f32⟩
  | 66 => ⟨S1x100000x128, .f32⟩
  | 67 => ⟨S1x100000x128, .f32⟩
  | 68 => ⟨S1x1x128, .f32⟩
  | 69 => ⟨S1x100000x128, .f32⟩
  | 70 => ⟨S1x100000x128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S128, .f32⟩
  | 77 => ⟨S_, .f32⟩
  | 78 => ⟨S_, .f32⟩
  | 79 => ⟨S_, .f32⟩
  | 80 => ⟨S_, .f32⟩
  | 81 => ⟨S100000x128, .f32⟩
  | 82 => ⟨S1x100000x128, .f32⟩
  | 83 => ⟨S_, .f32⟩
  | 84 => ⟨S1x100000x128, .f32⟩
  | 85 => ⟨S1x100000x128, .f32⟩
  | 86 => ⟨S1x1x128, .f32⟩
  | 87 => ⟨S1x100000x128, .f32⟩
  | 88 => ⟨S1x100000x128, .f32⟩
  | 89 => ⟨S1x100000x128, .f32⟩
  | 90 => ⟨S1x100000x128, .f32⟩
  | 91 => ⟨S_, .f32⟩
  | 92 => ⟨S100000x128, .f32⟩
  | 93 => ⟨S1x100000x128, .f32⟩
  | 94 => ⟨S_, .f32⟩
  | 95 => ⟨S1x100000x128, .f32⟩
  | 96 => ⟨S1x100000x128, .f32⟩
  | 97 => ⟨S1x100000x128, .f32⟩
  | 98 => ⟨S1x100000x128, .f32⟩
  | 99 => ⟨S1x100000x128, .f32⟩
  | 100 => ⟨S1x1x128, .f32⟩
  | 101 => ⟨S1x100000x128, .f32⟩
  | 102 => ⟨S1x100000x128, .f32⟩
  | 103 => ⟨S1x100000x128, .f32⟩
  | 104 => ⟨S1x1x128, .f32⟩
  | 105 => ⟨S1x100000x128, .f32⟩
  | 106 => ⟨S1x100000x128, .f32⟩
  | 107 => ⟨S_, .f32⟩
  | 108 => ⟨S1x100000x128, .f32⟩
  | 109 => ⟨S1x100000x128, .i1⟩
  | 110 => ⟨S_, .f32⟩
  | 111 => ⟨S1x100000x128, .f32⟩
  | 112 => ⟨S1x100000x128, .f32⟩
  | 113 => ⟨S1x100000x128, .f32⟩
  | 114 => ⟨S1x4x128x128, .f32⟩
  | 115 => ⟨S4x128x128, .f32⟩
  | 116 => ⟨S1x128, .f32⟩
  | 117 => ⟨S128, .f32⟩
  | 118 => ⟨S1x128x128, .f32⟩
  | 119 => ⟨S128x128, .f32⟩
  | 120 => ⟨S1x100000x128, .f32⟩
  | 121 => ⟨S_, .i32⟩
  | 122 => ⟨S199999, .i32⟩
  | 123 => ⟨S199999, .i1⟩
  | 124 => ⟨S_, .i32⟩
  | 125 => ⟨S199999, .i32⟩
  | 126 => ⟨S199999, .i32⟩
  | 127 => ⟨S199999, .i32⟩
  | _ => ⟨S1x100000x128, .f32⟩

abbrev hbmTy0_4 (i : Nat) : BufTy := match i % 128 with
  | 0 => ⟨S199999x1, .i32⟩
  | 1 => ⟨S1x199999x128, .f32⟩
  | 2 => ⟨S1x199999x1, .f32⟩
  | 3 => ⟨S1x199999x128, .f32⟩
  | 4 => ⟨S1x199999x128, .f32⟩
  | 5 => ⟨S_, .f32⟩
  | 6 => ⟨S1x100000x128, .f32⟩
  | 7 => ⟨S_, .i32⟩
  | 8 => ⟨S199999, .i32⟩
  | 9 => ⟨S199999, .i1⟩
  | 10 => ⟨S_, .i32⟩
  | 11 => ⟨S199999, .i32⟩
  | 12 => ⟨S199999, .i32⟩
  | 13 => ⟨S199999, .i32⟩
  | 14 => ⟨S199999x1, .i32⟩
  | 15 => ⟨S1x100000x128, .f32⟩
  | 16 => ⟨S1x128x128, .f32⟩
  | 17 => ⟨S128x128, .f32⟩
  | 18 => ⟨S1x100000x128, .f32⟩
  | 19 => ⟨S1x100000x128, .f32⟩
  | 20 => ⟨S_, .i32⟩
  | 21 => ⟨S199999, .i32⟩
  | 22 => ⟨S199999, .i1⟩
  | 23 => ⟨S_, .i32⟩
  | 24 => ⟨S199999, .i32⟩
  | 25 => ⟨S199999, .i32⟩
  | 26 => ⟨S199999, .i32⟩
  | 27 => ⟨S199999x1, .i32⟩
  | 28 => ⟨S1x199999x128, .f32⟩
  | 29 => ⟨S1x199999x1, .f32⟩
  | 30 => ⟨S1x199999x128, .f32⟩
  | 31 => ⟨S1x199999x128, .f32⟩
  | 32 => ⟨S_, .f32⟩
  | 33 => ⟨S1x100000x128, .f32⟩
  | 34 => ⟨S_, .i32⟩
  | 35 => ⟨S199999, .i32⟩
  | 36 => ⟨S199999, .i1⟩
  | 37 => ⟨S_, .i32⟩
  | 38 => ⟨S199999, .i32⟩
  | 39 => ⟨S199999, .i32⟩
  | 40 => ⟨S199999, .i32⟩
  | 41 => ⟨S199999x1, .i32⟩
  | 42 => ⟨S1x100000x128, .f32⟩
  | 43 => ⟨S_, .f32⟩
  | 44 => ⟨S1x100000x128, .f32⟩
  | 45 => ⟨S1x100000x128, .f32⟩
  | 46 => ⟨S1x100000x128, .f32⟩
  | 47 => ⟨S1x128x128, .f32⟩
  | 48 => ⟨S128x128, .f32⟩
  | 49 => ⟨S1x100000x128, .f32⟩
  | 50 => ⟨S1x100000x128, .f32⟩
  | 51 => ⟨S_, .i32⟩
  | 52 => ⟨S199999, .i32⟩
  | 53 => ⟨S199999, .i1⟩
  | 54 => ⟨S_, .i32⟩
  | 55 => ⟨S199999, .i32⟩
  | 56 => ⟨S199999, .i32⟩
  | 57 => ⟨S199999, .i32⟩
  | 58 => ⟨S199999x1, .i32⟩
  | 59 => ⟨S1x199999x128, .f32⟩
  | 60 => ⟨S1x199999x1, .f32⟩
  | 61 => ⟨S1x199999x128, .f32⟩
  | 62 => ⟨S1x199999x128, .f32⟩
  | 63 => ⟨S_, .f32⟩
  | 64 => ⟨S1x100000x128, .f32⟩
  | 65 => ⟨S_, .i32⟩
  | 66 => ⟨S199999, .i32⟩
  | 67 => ⟨S199999, .i1⟩
  | 68 => ⟨S_, .i32⟩
  | 69 => ⟨S199999, .i32⟩
  | 70 => ⟨S199999, .i32⟩
  | 71 => ⟨S199999, .i32⟩
  | 72 => ⟨S199999x1, .i32⟩
  | 73 => ⟨S1x100000x128, .f32⟩
  | 74 => ⟨S_, .f32⟩
  | 75 => ⟨S1x100000x128, .f32⟩
  | 76 => ⟨S1x100000x128, .f32⟩
  | 77 => ⟨S1x100000x128, .f32⟩
  | 78 => ⟨S1x128x128, .f32⟩
  | 79 => ⟨S128x128, .f32⟩
  | 80 => ⟨S1x100000x128, .f32⟩
  | 81 => ⟨S1x100000x128, .f32⟩
  | 82 => ⟨S1x1x128, .f32⟩
  | 83 => ⟨S1x100000x128, .f32⟩
  | 84 => ⟨S1x100000x128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S_, .f32⟩
  | 92 => ⟨S_, .f32⟩
  | 93 => ⟨S_, .f32⟩
  | 94 => ⟨S_, .f32⟩
  | 95 => ⟨S100000x128, .f32⟩
  | 96 => ⟨S1x100000x128, .f32⟩
  | 97 => ⟨S_, .f32⟩
  | 98 => ⟨S1x100000x128, .f32⟩
  | 99 => ⟨S1x100000x128, .f32⟩
  | 100 => ⟨S1x1x128, .f32⟩
  | 101 => ⟨S1x100000x128, .f32⟩
  | 102 => ⟨S1x100000x128, .f32⟩
  | 103 => ⟨S1x100000x128, .f32⟩
  | 104 => ⟨S1x100000x128, .f32⟩
  | 105 => ⟨S_, .f32⟩
  | 106 => ⟨S100000x128, .f32⟩
  | 107 => ⟨S1x100000x128, .f32⟩
  | 108 => ⟨S_, .f32⟩
  | 109 => ⟨S1x100000x128, .f32⟩
  | 110 => ⟨S1x100000x128, .f32⟩
  | 111 => ⟨S1x100000x128, .f32⟩
  | 112 => ⟨S1x100000x128, .f32⟩
  | 113 => ⟨S1x100000x128, .f32⟩
  | 114 => ⟨S1x1x128, .f32⟩
  | 115 => ⟨S1x100000x128, .f32⟩
  | 116 => ⟨S1x100000x128, .f32⟩
  | 117 => ⟨S1x100000x128, .f32⟩
  | 118 => ⟨S1x1x128, .f32⟩
  | 119 => ⟨S1x100000x128, .f32⟩
  | 120 => ⟨S1x100000x128, .f32⟩
  | 121 => ⟨S1x100000x128, .f32⟩
  | 122 => ⟨S_, .f32⟩
  | 123 => ⟨S1x100000x128, .f32⟩
  | 124 => ⟨S1x100000x128, .f32⟩
  | 125 => ⟨S_, .f32⟩
  | 126 => ⟨S1x128, .f32⟩
  | 127 => ⟨S_, .f32⟩
  | _ => ⟨S1x100000x128, .f32⟩

abbrev hbmTy0_5 (i : Nat) : BufTy := match i % 128 with
  | 0 => ⟨S1x128, .f32⟩
  | 1 => ⟨S1x128, .f32⟩
  | 2 => ⟨S128, .f32⟩
  | 3 => ⟨S128x128, .f32⟩
  | 4 => ⟨S128, .f32⟩
  | 5 => ⟨S128, .f32⟩
  | 6 => ⟨S_, .f32⟩
  | 7 => ⟨S128, .f32⟩
  | 8 => ⟨S128, .f32⟩
  | 9 => ⟨S128, .f32⟩
  | 10 => ⟨S128, .f32⟩
  | 11 => ⟨S128, .i1⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | _ => ⟨S1x100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x100000x128, .f32⟩

abbrev bufTy : (tb : Table) → Fin (tcTables nBuf tb) → BufTy
  | .hbm, ⟨i, _⟩ => hbmTy i
  | _, _ => ⟨S1x100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_v20 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_v21 : Ref sig .tc := ⟨.hbm, 43, rfl⟩
abbrev main_c_8 : Ref sig .tc := ⟨.hbm, 44, rfl⟩
abbrev main_v22 : Ref sig .tc := ⟨.hbm, 45, rfl⟩
abbrev main_v23 : Ref sig .tc := ⟨.hbm, 46, rfl⟩
abbrev main_c_9 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_10 : Ref sig .tc := ⟨.hbm, 54, rfl⟩
abbrev main_v30 : Ref sig .tc := ⟨.hbm, 55, rfl⟩
abbrev main_v31 : Ref sig .tc := ⟨.hbm, 56, rfl⟩
abbrev main_c_11 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_12 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_13 : Ref sig .tc := ⟨.hbm, 79, rfl⟩
abbrev main_v52 : Ref sig .tc := ⟨.hbm, 80, rfl⟩
abbrev main_v53 : Ref sig .tc := ⟨.hbm, 81, rfl⟩
abbrev main_c_14 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_15 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_c_17 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_20 : Ref sig .tc := ⟨.hbm, 118, rfl⟩
abbrev main_v84 : Ref sig .tc := ⟨.hbm, 119, rfl⟩
abbrev main_c_21 : Ref sig .tc := ⟨.hbm, 120, rfl⟩
abbrev main_v85 : Ref sig .tc := ⟨.hbm, 121, rfl⟩
abbrev main_v86 : Ref sig .tc := ⟨.hbm, 122, rfl⟩
abbrev main_c_22 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_23 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_24 : Ref sig .tc := ⟨.hbm, 137, rfl⟩
abbrev main_v99 : Ref sig .tc := ⟨.hbm, 138, rfl⟩
abbrev main_v100 : Ref sig .tc := ⟨.hbm, 139, rfl⟩
abbrev main_c_25 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_26 : Ref sig .tc := ⟨.hbm, 149, rfl⟩
abbrev main_v109 : Ref sig .tc := ⟨.hbm, 150, rfl⟩
abbrev main_c_27 : Ref sig .tc := ⟨.hbm, 151, rfl⟩
abbrev main_v110 : Ref sig .tc := ⟨.hbm, 152, rfl⟩
abbrev main_v111 : Ref sig .tc := ⟨.hbm, 153, rfl⟩
abbrev main_c_28 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_29 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_30 : Ref sig .tc := ⟨.hbm, 177, rfl⟩
abbrev main_cst_31 : Ref sig .tc := ⟨.hbm, 178, rfl⟩
abbrev main_v133 : Ref sig .tc := ⟨.hbm, 179, rfl⟩
abbrev main_cst_32 : Ref sig .tc := ⟨.hbm, 180, rfl⟩
abbrev main_v134 : Ref sig .tc := ⟨.hbm, 181, rfl⟩
abbrev main_v135 : Ref sig .tc := ⟨.hbm, 182, rfl⟩
abbrev main_cst_33 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_34 : Ref sig .tc := ⟨.hbm, 191, rfl⟩
abbrev main_v143 : Ref sig .tc := ⟨.hbm, 192, rfl⟩
abbrev main_v144 : Ref sig .tc := ⟨.hbm, 193, rfl⟩
abbrev main_cst_35 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_cst_36 : Ref sig .tc := ⟨.hbm, 207, rfl⟩
abbrev main_v157 : Ref sig .tc := ⟨.hbm, 208, rfl⟩
abbrev main_v158 : Ref sig .tc := ⟨.hbm, 209, rfl⟩
abbrev main_cst_37 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_c_38 : Ref sig .tc := ⟨.hbm, 221, rfl⟩
abbrev main_v169 : Ref sig .tc := ⟨.hbm, 222, rfl⟩
abbrev main_v170 : Ref sig .tc := ⟨.hbm, 223, rfl⟩
abbrev main_c_39 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_cst_40 : Ref sig .tc := ⟨.hbm, 233, rfl⟩
abbrev main_v179 : Ref sig .tc := ⟨.hbm, 234, rfl⟩
abbrev main_c_41 : Ref sig .tc := ⟨.hbm, 235, rfl⟩
abbrev main_v180 : Ref sig .tc := ⟨.hbm, 236, rfl⟩
abbrev main_v181 : Ref sig .tc := ⟨.hbm, 237, rfl⟩
abbrev main_c_42 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_c_43 : Ref sig .tc := ⟨.hbm, 248, rfl⟩
abbrev main_v191 : Ref sig .tc := ⟨.hbm, 249, rfl⟩
abbrev main_v192 : Ref sig .tc := ⟨.hbm, 250, rfl⟩
abbrev main_c_44 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_cst_45 : Ref sig .tc := ⟨.hbm, 260, rfl⟩
abbrev main_v201 : Ref sig .tc := ⟨.hbm, 261, rfl⟩
abbrev main_c_46 : Ref sig .tc := ⟨.hbm, 262, rfl⟩
abbrev main_v202 : Ref sig .tc := ⟨.hbm, 263, rfl⟩
abbrev main_v203 : Ref sig .tc := ⟨.hbm, 264, rfl⟩
abbrev main_c_47 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_cst_48 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_c_49 : Ref sig .tc := ⟨.hbm, 279, rfl⟩
abbrev main_v216 : Ref sig .tc := ⟨.hbm, 280, rfl⟩
abbrev main_v217 : Ref sig .tc := ⟨.hbm, 281, rfl⟩
abbrev main_c_50 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_cst_51 : Ref sig .tc := ⟨.hbm, 291, rfl⟩
abbrev main_v226 : Ref sig .tc := ⟨.hbm, 292, rfl⟩
abbrev main_c_52 : Ref sig .tc := ⟨.hbm, 293, rfl⟩
abbrev main_v227 : Ref sig .tc := ⟨.hbm, 294, rfl⟩
abbrev main_v228 : Ref sig .tc := ⟨.hbm, 295, rfl⟩
abbrev main_c_53 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_cst_54 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_cst_55 : Ref sig .tc := ⟨.hbm, 319, rfl⟩
abbrev main_cst_56 : Ref sig .tc := ⟨.hbm, 320, rfl⟩
abbrev main_v250 : Ref sig .tc := ⟨.hbm, 321, rfl⟩
abbrev main_cst_57 : Ref sig .tc := ⟨.hbm, 322, rfl⟩
abbrev main_v251 : Ref sig .tc := ⟨.hbm, 323, rfl⟩
abbrev main_v252 : Ref sig .tc := ⟨.hbm, 324, rfl⟩
abbrev main_cst_58 : Ref sig .tc := ⟨.hbm, 325, rfl⟩
abbrev main_v253 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_cst_59 : Ref sig .tc := ⟨.hbm, 333, rfl⟩
abbrev main_v260 : Ref sig .tc := ⟨.hbm, 334, rfl⟩
abbrev main_v261 : Ref sig .tc := ⟨.hbm, 335, rfl⟩
abbrev main_cst_60 : Ref sig .tc := ⟨.hbm, 336, rfl⟩
abbrev main_v262 : Ref sig .tc := ⟨.hbm, 337, rfl⟩
abbrev main_v263 : Ref sig .tc := ⟨.hbm, 338, rfl⟩
abbrev main_v264 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_cst_61 : Ref sig .tc := ⟨.hbm, 349, rfl⟩
abbrev main_v274 : Ref sig .tc := ⟨.hbm, 350, rfl⟩
abbrev main_v275 : Ref sig .tc := ⟨.hbm, 351, rfl⟩
abbrev main_cst_62 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_c_63 : Ref sig .tc := ⟨.hbm, 363, rfl⟩
abbrev main_v286 : Ref sig .tc := ⟨.hbm, 364, rfl⟩
abbrev main_v287 : Ref sig .tc := ⟨.hbm, 365, rfl⟩
abbrev main_c_64 : Ref sig .tc := ⟨.hbm, 366, rfl⟩
abbrev main_v288 : Ref sig .tc := ⟨.hbm, 367, rfl⟩
abbrev main_v289 : Ref sig .tc := ⟨.hbm, 368, rfl⟩
abbrev main_v290 : Ref sig .tc := ⟨.hbm, 369, rfl⟩
abbrev main_v291 : Ref sig .tc := ⟨.hbm, 370, rfl⟩
abbrev main_v292 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_cst_65 : Ref sig .tc := ⟨.hbm, 375, rfl⟩
abbrev main_v296 : Ref sig .tc := ⟨.hbm, 376, rfl⟩
abbrev main_c_66 : Ref sig .tc := ⟨.hbm, 377, rfl⟩
abbrev main_v297 : Ref sig .tc := ⟨.hbm, 378, rfl⟩
abbrev main_v298 : Ref sig .tc := ⟨.hbm, 379, rfl⟩
abbrev main_c_67 : Ref sig .tc := ⟨.hbm, 380, rfl⟩
abbrev main_v299 : Ref sig .tc := ⟨.hbm, 381, rfl⟩
abbrev main_v300 : Ref sig .tc := ⟨.hbm, 382, rfl⟩
abbrev main_v301 : Ref sig .tc := ⟨.hbm, 383, rfl⟩
abbrev main_v302 : Ref sig .tc := ⟨.hbm, 384, rfl⟩
abbrev main_v303 : Ref sig .tc := ⟨.hbm, 385, rfl⟩
abbrev main_v304 : Ref sig .tc := ⟨.hbm, 386, rfl⟩
abbrev main_v305 : Ref sig .tc := ⟨.hbm, 387, rfl⟩
abbrev main_v306 : Ref sig .tc := ⟨.hbm, 388, rfl⟩
abbrev main_v307 : Ref sig .tc := ⟨.hbm, 389, rfl⟩
abbrev main_c_68 : Ref sig .tc := ⟨.hbm, 390, rfl⟩
abbrev main_v308 : Ref sig .tc := ⟨.hbm, 391, rfl⟩
abbrev main_v309 : Ref sig .tc := ⟨.hbm, 392, rfl⟩
abbrev main_c_69 : Ref sig .tc := ⟨.hbm, 393, rfl⟩
abbrev main_v310 : Ref sig .tc := ⟨.hbm, 394, rfl⟩
abbrev main_v311 : Ref sig .tc := ⟨.hbm, 395, rfl⟩
abbrev main_v312 : Ref sig .tc := ⟨.hbm, 396, rfl⟩
abbrev main_v313 : Ref sig .tc := ⟨.hbm, 397, rfl⟩
abbrev main_v314 : Ref sig .tc := ⟨.hbm, 398, rfl⟩
abbrev main_v315 : Ref sig .tc := ⟨.hbm, 399, rfl⟩
abbrev main_v316 : Ref sig .tc := ⟨.hbm, 400, rfl⟩
abbrev main_v317 : Ref sig .tc := ⟨.hbm, 401, rfl⟩
abbrev main_cst_70 : Ref sig .tc := ⟨.hbm, 402, rfl⟩
abbrev main_v318 : Ref sig .tc := ⟨.hbm, 403, rfl⟩
abbrev main_c_71 : Ref sig .tc := ⟨.hbm, 404, rfl⟩
abbrev main_v319 : Ref sig .tc := ⟨.hbm, 405, rfl⟩
abbrev main_v320 : Ref sig .tc := ⟨.hbm, 406, rfl⟩
abbrev main_c_72 : Ref sig .tc := ⟨.hbm, 407, rfl⟩
abbrev main_v321 : Ref sig .tc := ⟨.hbm, 408, rfl⟩
abbrev main_v322 : Ref sig .tc := ⟨.hbm, 409, rfl⟩
abbrev main_v323 : Ref sig .tc := ⟨.hbm, 410, rfl⟩
abbrev main_v324 : Ref sig .tc := ⟨.hbm, 411, rfl⟩
abbrev main_v325 : Ref sig .tc := ⟨.hbm, 412, rfl⟩
abbrev main_cst_73 : Ref sig .tc := ⟨.hbm, 413, rfl⟩
abbrev main_v326 : Ref sig .tc := ⟨.hbm, 414, rfl⟩
abbrev main_v327 : Ref sig .tc := ⟨.hbm, 415, rfl⟩
abbrev main_v328 : Ref sig .tc := ⟨.hbm, 416, rfl⟩
abbrev main_v329 : Ref sig .tc := ⟨.hbm, 417, rfl⟩
abbrev main_v330 : Ref sig .tc := ⟨.hbm, 418, rfl⟩
abbrev main_v331 : Ref sig .tc := ⟨.hbm, 419, rfl⟩
abbrev main_v332 : Ref sig .tc := ⟨.hbm, 420, rfl⟩
abbrev main_c_74 : Ref sig .tc := ⟨.hbm, 421, rfl⟩
abbrev main_v333 : Ref sig .tc := ⟨.hbm, 422, rfl⟩
abbrev main_v334 : Ref sig .tc := ⟨.hbm, 423, rfl⟩
abbrev main_c_75 : Ref sig .tc := ⟨.hbm, 424, rfl⟩
abbrev main_v335 : Ref sig .tc := ⟨.hbm, 425, rfl⟩
abbrev main_v336 : Ref sig .tc := ⟨.hbm, 426, rfl⟩
abbrev main_v337 : Ref sig .tc := ⟨.hbm, 427, rfl⟩
abbrev main_v338 : Ref sig .tc := ⟨.hbm, 428, rfl⟩
abbrev main_v339 : Ref sig .tc := ⟨.hbm, 429, rfl⟩
abbrev main_v340 : Ref sig .tc := ⟨.hbm, 430, rfl⟩
abbrev main_v341 : Ref sig .tc := ⟨.hbm, 431, rfl⟩
abbrev main_v342 : Ref sig .tc := ⟨.hbm, 432, rfl⟩
abbrev main_cst_76 : Ref sig .tc := ⟨.hbm, 433, rfl⟩
abbrev main_v343 : Ref sig .tc := ⟨.hbm, 434, rfl⟩
abbrev main_c_77 : Ref sig .tc := ⟨.hbm, 435, rfl⟩
abbrev main_v344 : Ref sig .tc := ⟨.hbm, 436, rfl⟩
abbrev main_v345 : Ref sig .tc := ⟨.hbm, 437, rfl⟩
abbrev main_c_78 : Ref sig .tc := ⟨.hbm, 438, rfl⟩
abbrev main_v346 : Ref sig .tc := ⟨.hbm, 439, rfl⟩
abbrev main_v347 : Ref sig .tc := ⟨.hbm, 440, rfl⟩
abbrev main_v348 : Ref sig .tc := ⟨.hbm, 441, rfl⟩
abbrev main_v349 : Ref sig .tc := ⟨.hbm, 442, rfl⟩
abbrev main_v350 : Ref sig .tc := ⟨.hbm, 443, rfl⟩
abbrev main_cst_79 : Ref sig .tc := ⟨.hbm, 444, rfl⟩
abbrev main_v351 : Ref sig .tc := ⟨.hbm, 445, rfl⟩
abbrev main_v352 : Ref sig .tc := ⟨.hbm, 446, rfl⟩
abbrev main_v353 : Ref sig .tc := ⟨.hbm, 447, rfl⟩
abbrev main_v354 : Ref sig .tc := ⟨.hbm, 448, rfl⟩
abbrev main_v355 : Ref sig .tc := ⟨.hbm, 449, rfl⟩
abbrev main_v356 : Ref sig .tc := ⟨.hbm, 450, rfl⟩
abbrev main_v357 : Ref sig .tc := ⟨.hbm, 451, rfl⟩
abbrev main_v358 : Ref sig .tc := ⟨.hbm, 452, rfl⟩
abbrev main_v359 : Ref sig .tc := ⟨.hbm, 453, rfl⟩
abbrev main_v360 : Ref sig .tc := ⟨.hbm, 454, rfl⟩
abbrev main_v361 : Ref sig .tc := ⟨.hbm, 455, rfl⟩
abbrev main_v362 : Ref sig .tc := ⟨.hbm, 456, rfl⟩
abbrev main_v363 : Ref sig .tc := ⟨.hbm, 457, rfl⟩
abbrev main_v364 : Ref sig .tc := ⟨.hbm, 458, rfl⟩
abbrev main_v365 : Ref sig .tc := ⟨.hbm, 459, rfl⟩
abbrev main_v366 : Ref sig .tc := ⟨.hbm, 460, rfl⟩
abbrev main_cst_80 : Ref sig .tc := ⟨.hbm, 461, rfl⟩
abbrev main_cst_81 : Ref sig .tc := ⟨.hbm, 462, rfl⟩
abbrev main_v367 : Ref sig .tc := ⟨.hbm, 463, rfl⟩
abbrev main_cst_82 : Ref sig .tc := ⟨.hbm, 464, rfl⟩
abbrev main_v368 : Ref sig .tc := ⟨.hbm, 465, rfl⟩
abbrev main_v369 : Ref sig .tc := ⟨.hbm, 466, rfl⟩
abbrev main_cst_83 : Ref sig .tc := ⟨.hbm, 467, rfl⟩
abbrev main_v370 : Ref sig .tc := ⟨.hbm, 468, rfl⟩
abbrev main_v371 : Ref sig .tc := ⟨.hbm, 469, rfl⟩
abbrev main_v372 : Ref sig .tc := ⟨.hbm, 470, rfl⟩
abbrev main_v373 : Ref sig .tc := ⟨.hbm, 471, rfl⟩
abbrev main_v374 : Ref sig .tc := ⟨.hbm, 472, rfl⟩
abbrev main_v375 : Ref sig .tc := ⟨.hbm, 473, rfl⟩
abbrev main_v376 : Ref sig .tc := ⟨.hbm, 474, rfl⟩
abbrev main_cst_84 : Ref sig .tc := ⟨.hbm, 475, rfl⟩
abbrev main_v377 : Ref sig .tc := ⟨.hbm, 476, rfl⟩
abbrev main_v378 : Ref sig .tc := ⟨.hbm, 477, rfl⟩
abbrev main_cst_85 : Ref sig .tc := ⟨.hbm, 478, rfl⟩
abbrev main_v379 : Ref sig .tc := ⟨.hbm, 479, rfl⟩
abbrev main_v380 : Ref sig .tc := ⟨.hbm, 480, rfl⟩
abbrev main_v381 : Ref sig .tc := ⟨.hbm, 481, rfl⟩
abbrev main_v382 : Ref sig .tc := ⟨.hbm, 482, rfl⟩
abbrev main_v383 : Ref sig .tc := ⟨.hbm, 483, rfl⟩
abbrev main_v384 : Ref sig .tc := ⟨.hbm, 484, rfl⟩
abbrev main_v385 : Ref sig .tc := ⟨.hbm, 485, rfl⟩
abbrev main_v386 : Ref sig .tc := ⟨.hbm, 486, rfl⟩
abbrev main_v387 : Ref sig .tc := ⟨.hbm, 487, rfl⟩
abbrev main_v388 : Ref sig .tc := ⟨.hbm, 488, rfl⟩
abbrev main_v389 : Ref sig .tc := ⟨.hbm, 489, rfl⟩
abbrev main_v390 : Ref sig .tc := ⟨.hbm, 490, rfl⟩
abbrev main_cst_86 : Ref sig .tc := ⟨.hbm, 491, rfl⟩
abbrev main_v391 : Ref sig .tc := ⟨.hbm, 492, rfl⟩
abbrev main_v392 : Ref sig .tc := ⟨.hbm, 493, rfl⟩
abbrev main_cst_87 : Ref sig .tc := ⟨.hbm, 494, rfl⟩
abbrev main_v393 : Ref sig .tc := ⟨.hbm, 495, rfl⟩
abbrev main_v394 : Ref sig .tc := ⟨.hbm, 496, rfl⟩
abbrev main_v395 : Ref sig .tc := ⟨.hbm, 497, rfl⟩
abbrev main_v396 : Ref sig .tc := ⟨.hbm, 498, rfl⟩
abbrev main_v397 : Ref sig .tc := ⟨.hbm, 499, rfl⟩
abbrev main_v398 : Ref sig .tc := ⟨.hbm, 500, rfl⟩
abbrev main_v399 : Ref sig .tc := ⟨.hbm, 501, rfl⟩
abbrev main_v400 : Ref sig .tc := ⟨.hbm, 502, rfl⟩
abbrev main_v401 : Ref sig .tc := ⟨.hbm, 503, rfl⟩
abbrev main_v402 : Ref sig .tc := ⟨.hbm, 504, rfl⟩
abbrev main_c_88 : Ref sig .tc := ⟨.hbm, 505, rfl⟩
abbrev main_v403 : Ref sig .tc := ⟨.hbm, 506, rfl⟩
abbrev main_v404 : Ref sig .tc := ⟨.hbm, 507, rfl⟩
abbrev main_c_89 : Ref sig .tc := ⟨.hbm, 508, rfl⟩
abbrev main_v405 : Ref sig .tc := ⟨.hbm, 509, rfl⟩
abbrev main_v406 : Ref sig .tc := ⟨.hbm, 510, rfl⟩
abbrev main_v407 : Ref sig .tc := ⟨.hbm, 511, rfl⟩
abbrev main_v408 : Ref sig .tc := ⟨.hbm, 512, rfl⟩
abbrev main_v409 : Ref sig .tc := ⟨.hbm, 513, rfl⟩
abbrev main_v410 : Ref sig .tc := ⟨.hbm, 514, rfl⟩
abbrev main_v411 : Ref sig .tc := ⟨.hbm, 515, rfl⟩
abbrev main_v412 : Ref sig .tc := ⟨.hbm, 516, rfl⟩
abbrev main_cst_90 : Ref sig .tc := ⟨.hbm, 517, rfl⟩
abbrev main_v413 : Ref sig .tc := ⟨.hbm, 518, rfl⟩
abbrev main_c_91 : Ref sig .tc := ⟨.hbm, 519, rfl⟩
abbrev main_v414 : Ref sig .tc := ⟨.hbm, 520, rfl⟩
abbrev main_v415 : Ref sig .tc := ⟨.hbm, 521, rfl⟩
abbrev main_c_92 : Ref sig .tc := ⟨.hbm, 522, rfl⟩
abbrev main_v416 : Ref sig .tc := ⟨.hbm, 523, rfl⟩
abbrev main_v417 : Ref sig .tc := ⟨.hbm, 524, rfl⟩
abbrev main_v418 : Ref sig .tc := ⟨.hbm, 525, rfl⟩
abbrev main_v419 : Ref sig .tc := ⟨.hbm, 526, rfl⟩
abbrev main_v420 : Ref sig .tc := ⟨.hbm, 527, rfl⟩
abbrev main_v421 : Ref sig .tc := ⟨.hbm, 528, rfl⟩
abbrev main_v422 : Ref sig .tc := ⟨.hbm, 529, rfl⟩
abbrev main_v423 : Ref sig .tc := ⟨.hbm, 530, rfl⟩
abbrev main_v424 : Ref sig .tc := ⟨.hbm, 531, rfl⟩
abbrev main_c_93 : Ref sig .tc := ⟨.hbm, 532, rfl⟩
abbrev main_v425 : Ref sig .tc := ⟨.hbm, 533, rfl⟩
abbrev main_v426 : Ref sig .tc := ⟨.hbm, 534, rfl⟩
abbrev main_c_94 : Ref sig .tc := ⟨.hbm, 535, rfl⟩
abbrev main_v427 : Ref sig .tc := ⟨.hbm, 536, rfl⟩
abbrev main_v428 : Ref sig .tc := ⟨.hbm, 537, rfl⟩
abbrev main_v429 : Ref sig .tc := ⟨.hbm, 538, rfl⟩
abbrev main_v430 : Ref sig .tc := ⟨.hbm, 539, rfl⟩
abbrev main_v431 : Ref sig .tc := ⟨.hbm, 540, rfl⟩
abbrev main_v432 : Ref sig .tc := ⟨.hbm, 541, rfl⟩
abbrev main_v433 : Ref sig .tc := ⟨.hbm, 542, rfl⟩
abbrev main_v434 : Ref sig .tc := ⟨.hbm, 543, rfl⟩
abbrev main_cst_95 : Ref sig .tc := ⟨.hbm, 544, rfl⟩
abbrev main_v435 : Ref sig .tc := ⟨.hbm, 545, rfl⟩
abbrev main_c_96 : Ref sig .tc := ⟨.hbm, 546, rfl⟩
abbrev main_v436 : Ref sig .tc := ⟨.hbm, 547, rfl⟩
abbrev main_v437 : Ref sig .tc := ⟨.hbm, 548, rfl⟩
abbrev main_c_97 : Ref sig .tc := ⟨.hbm, 549, rfl⟩
abbrev main_v438 : Ref sig .tc := ⟨.hbm, 550, rfl⟩
abbrev main_v439 : Ref sig .tc := ⟨.hbm, 551, rfl⟩
abbrev main_v440 : Ref sig .tc := ⟨.hbm, 552, rfl⟩
abbrev main_v441 : Ref sig .tc := ⟨.hbm, 553, rfl⟩
abbrev main_v442 : Ref sig .tc := ⟨.hbm, 554, rfl⟩
abbrev main_cst_98 : Ref sig .tc := ⟨.hbm, 555, rfl⟩
abbrev main_v443 : Ref sig .tc := ⟨.hbm, 556, rfl⟩
abbrev main_v444 : Ref sig .tc := ⟨.hbm, 557, rfl⟩
abbrev main_v445 : Ref sig .tc := ⟨.hbm, 558, rfl⟩
abbrev main_v446 : Ref sig .tc := ⟨.hbm, 559, rfl⟩
abbrev main_v447 : Ref sig .tc := ⟨.hbm, 560, rfl⟩
abbrev main_v448 : Ref sig .tc := ⟨.hbm, 561, rfl⟩
abbrev main_v449 : Ref sig .tc := ⟨.hbm, 562, rfl⟩
abbrev main_c_99 : Ref sig .tc := ⟨.hbm, 563, rfl⟩
abbrev main_v450 : Ref sig .tc := ⟨.hbm, 564, rfl⟩
abbrev main_v451 : Ref sig .tc := ⟨.hbm, 565, rfl⟩
abbrev main_c_100 : Ref sig .tc := ⟨.hbm, 566, rfl⟩
abbrev main_v452 : Ref sig .tc := ⟨.hbm, 567, rfl⟩
abbrev main_v453 : Ref sig .tc := ⟨.hbm, 568, rfl⟩
abbrev main_v454 : Ref sig .tc := ⟨.hbm, 569, rfl⟩
abbrev main_v455 : Ref sig .tc := ⟨.hbm, 570, rfl⟩
abbrev main_v456 : Ref sig .tc := ⟨.hbm, 571, rfl⟩
abbrev main_v457 : Ref sig .tc := ⟨.hbm, 572, rfl⟩
abbrev main_v458 : Ref sig .tc := ⟨.hbm, 573, rfl⟩
abbrev main_v459 : Ref sig .tc := ⟨.hbm, 574, rfl⟩
abbrev main_cst_101 : Ref sig .tc := ⟨.hbm, 575, rfl⟩
abbrev main_v460 : Ref sig .tc := ⟨.hbm, 576, rfl⟩
abbrev main_c_102 : Ref sig .tc := ⟨.hbm, 577, rfl⟩
abbrev main_v461 : Ref sig .tc := ⟨.hbm, 578, rfl⟩
abbrev main_v462 : Ref sig .tc := ⟨.hbm, 579, rfl⟩
abbrev main_c_103 : Ref sig .tc := ⟨.hbm, 580, rfl⟩
abbrev main_v463 : Ref sig .tc := ⟨.hbm, 581, rfl⟩
abbrev main_v464 : Ref sig .tc := ⟨.hbm, 582, rfl⟩
abbrev main_v465 : Ref sig .tc := ⟨.hbm, 583, rfl⟩
abbrev main_v466 : Ref sig .tc := ⟨.hbm, 584, rfl⟩
abbrev main_v467 : Ref sig .tc := ⟨.hbm, 585, rfl⟩
abbrev main_cst_104 : Ref sig .tc := ⟨.hbm, 586, rfl⟩
abbrev main_v468 : Ref sig .tc := ⟨.hbm, 587, rfl⟩
abbrev main_v469 : Ref sig .tc := ⟨.hbm, 588, rfl⟩
abbrev main_v470 : Ref sig .tc := ⟨.hbm, 589, rfl⟩
abbrev main_v471 : Ref sig .tc := ⟨.hbm, 590, rfl⟩
abbrev main_v472 : Ref sig .tc := ⟨.hbm, 591, rfl⟩
abbrev main_v473 : Ref sig .tc := ⟨.hbm, 592, rfl⟩
abbrev main_v474 : Ref sig .tc := ⟨.hbm, 593, rfl⟩
abbrev main_v475 : Ref sig .tc := ⟨.hbm, 594, rfl⟩
abbrev main_v476 : Ref sig .tc := ⟨.hbm, 595, rfl⟩
abbrev main_v477 : Ref sig .tc := ⟨.hbm, 596, rfl⟩
abbrev main_v478 : Ref sig .tc := ⟨.hbm, 597, rfl⟩
abbrev main_v479 : Ref sig .tc := ⟨.hbm, 598, rfl⟩
abbrev main_v480 : Ref sig .tc := ⟨.hbm, 599, rfl⟩
abbrev main_v481 : Ref sig .tc := ⟨.hbm, 600, rfl⟩
abbrev main_v482 : Ref sig .tc := ⟨.hbm, 601, rfl⟩
abbrev main_v483 : Ref sig .tc := ⟨.hbm, 602, rfl⟩
abbrev main_cst_105 : Ref sig .tc := ⟨.hbm, 603, rfl⟩
abbrev main_cst_106 : Ref sig .tc := ⟨.hbm, 604, rfl⟩
abbrev main_v484 : Ref sig .tc := ⟨.hbm, 605, rfl⟩
abbrev main_cst_107 : Ref sig .tc := ⟨.hbm, 606, rfl⟩
abbrev main_v485 : Ref sig .tc := ⟨.hbm, 607, rfl⟩
abbrev main_v486 : Ref sig .tc := ⟨.hbm, 608, rfl⟩
abbrev main_cst_108 : Ref sig .tc := ⟨.hbm, 609, rfl⟩
abbrev main_v487 : Ref sig .tc := ⟨.hbm, 610, rfl⟩
abbrev main_v488 : Ref sig .tc := ⟨.hbm, 611, rfl⟩
abbrev main_v489 : Ref sig .tc := ⟨.hbm, 612, rfl⟩
abbrev main_v490 : Ref sig .tc := ⟨.hbm, 613, rfl⟩
abbrev main_v491 : Ref sig .tc := ⟨.hbm, 614, rfl⟩
abbrev main_v492 : Ref sig .tc := ⟨.hbm, 615, rfl⟩
abbrev main_v493 : Ref sig .tc := ⟨.hbm, 616, rfl⟩
abbrev main_cst_109 : Ref sig .tc := ⟨.hbm, 617, rfl⟩
abbrev main_v494 : Ref sig .tc := ⟨.hbm, 618, rfl⟩
abbrev main_v495 : Ref sig .tc := ⟨.hbm, 619, rfl⟩
abbrev main_cst_110 : Ref sig .tc := ⟨.hbm, 620, rfl⟩
abbrev main_v496 : Ref sig .tc := ⟨.hbm, 621, rfl⟩
abbrev main_v497 : Ref sig .tc := ⟨.hbm, 622, rfl⟩
abbrev main_v498 : Ref sig .tc := ⟨.hbm, 623, rfl⟩
abbrev main_v499 : Ref sig .tc := ⟨.hbm, 624, rfl⟩
abbrev main_v500 : Ref sig .tc := ⟨.hbm, 625, rfl⟩
abbrev main_v501 : Ref sig .tc := ⟨.hbm, 626, rfl⟩
abbrev main_v502 : Ref sig .tc := ⟨.hbm, 627, rfl⟩
abbrev main_v503 : Ref sig .tc := ⟨.hbm, 628, rfl⟩
abbrev main_v504 : Ref sig .tc := ⟨.hbm, 629, rfl⟩
abbrev main_v505 : Ref sig .tc := ⟨.hbm, 630, rfl⟩
abbrev main_v506 : Ref sig .tc := ⟨.hbm, 631, rfl⟩
abbrev main_v507 : Ref sig .tc := ⟨.hbm, 632, rfl⟩
abbrev main_v508 : Ref sig .tc := ⟨.hbm, 633, rfl⟩
abbrev main_call5_cst : Ref sig .tc := ⟨.hbm, 634, rfl⟩
abbrev main_call5_v0 : Ref sig .tc := ⟨.hbm, 635, rfl⟩
abbrev main_v509 : Ref sig .tc := ⟨.hbm, 636, rfl⟩
abbrev main_cst_111 : Ref sig .tc := ⟨.hbm, 637, rfl⟩
abbrev main_v510 : Ref sig .tc := ⟨.hbm, 638, rfl⟩
abbrev main_cst_112 : Ref sig .tc := ⟨.hbm, 639, rfl⟩
abbrev main_v511 : Ref sig .tc := ⟨.hbm, 640, rfl⟩
abbrev main_v512 : Ref sig .tc := ⟨.hbm, 641, rfl⟩
abbrev main_v513 : Ref sig .tc := ⟨.hbm, 642, rfl⟩
abbrev main_v514 : Ref sig .tc := ⟨.hbm, 643, rfl⟩
abbrev main_v515 : Ref sig .tc := ⟨.hbm, 644, rfl⟩
abbrev main_v516 : Ref sig .tc := ⟨.hbm, 645, rfl⟩
abbrev main_call6_cst : Ref sig .tc := ⟨.hbm, 646, rfl⟩
abbrev main_call6_v0 : Ref sig .tc := ⟨.hbm, 647, rfl⟩
abbrev main_call6_v1 : Ref sig .tc := ⟨.hbm, 648, rfl⟩
abbrev main_call6_v2 : Ref sig .tc := ⟨.hbm, 649, rfl⟩
abbrev main_call6_v3 : Ref sig .tc := ⟨.hbm, 650, rfl⟩
abbrev main_call6_v4 : Ref sig .tc := ⟨.hbm, 651, rfl⟩
abbrev main_call6_v5 : Ref sig .tc := ⟨.hbm, 652, rfl⟩
abbrev main_call6_v6 : Ref sig .tc := ⟨.hbm, 653, rfl⟩
abbrev main_call6_v7 : Ref sig .tc := ⟨.hbm, 654, rfl⟩
abbrev main_call6_v8 : Ref sig .tc := ⟨.hbm, 655, rfl⟩
abbrev main_call6_v9 : Ref sig .tc := ⟨.hbm, 656, rfl⟩
abbrev main_call6_v10 : Ref sig .tc := ⟨.hbm, 657, rfl⟩
abbrev main_call6_v11 : Ref sig .tc := ⟨.hbm, 658, rfl⟩
abbrev main_v517 : Ref sig .tc := ⟨.hbm, 659, rfl⟩

abbrev nD : Nat := 1
abbrev τ : Topo := Topo.v7x

variable {F : FTy → Type} [FloatOps F]
-- ==== Proof.Consts.lean ====
/- The float constants the two programs spell, as the extended reals their patterns denote, stated once. -/
module

public import Idealize.ShloMosaic.PureOps.Ideal

@[expose] public section

noncomputable section

namespace Cert.Consts

open Idealize.ShloMosaic

/-- `0.1` in f32: the real `13421773 / 2 ^ 27`. -/
theorem ofBits_tenth : Ideal.ofBits .f32 0x3DCCCCCD#32 = ((13421773 / 134217728 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

theorem ofBits_neg_four : Ideal.ofBits .f32 0xC0800000#32 = ((-4 : ℝ) : EReal) := by
  simp [Ideal.ofBits, Ideal.ieee, -EReal.coe_mul]; norm_num

/-- The number of nodes as an f32. -/
theorem ofBits_nodes : Ideal.ofBits .f32 0x47C35000#32 = ((100000 : ℝ) : EReal) := by
  simp [Ideal.ofBits, Ideal.ieee, -EReal.coe_mul]; norm_num

theorem ofBits_inf : Ideal.ofBits .f32 0x7F800000#32 = (⊤ : EReal) := by
  simp [Ideal.ofBits, Ideal.ieee]

end Cert.Consts

end
-- ==== Proof.Net.lean ====
/-
  The network over the reals, in the two forms the two programs compute it, and that the two forms agree.
  Nothing here mentions a program: nodes are integers (a node below zero holds zero), features are `Fin 128`.
-/
module

public import Mathlib.Analysis.SpecialFunctions.Pow.Real
public import Mathlib.Data.EReal.Operations
public import Mathlib.Algebra.BigOperators.Fin
public import Mathlib.Algebra.BigOperators.Intervals
public import Mathlib.Tactic.Linarith
public import Mathlib.Tactic.Ring

@[expose] public section

noncomputable section

namespace Cert.Net

/-- Node values: one real per node and feature. -/
abbrev Nodes := ℤ → Fin 128 → ℝ

/-- A 128 × 128 real matrix. -/
abbrev Mat := Fin 128 → Fin 128 → ℝ

/-- A row of 128 reals. -/
abbrev Row := Fin 128 → ℝ

/-- The variance's offset, 1/100000. -/
def eps : ℝ := 1 / 100000

theorem eps_pos : 0 < eps := by unfold eps; norm_num

/-- The slope of the leaky rectifier on negative values: the f32 nearest to 0.1. -/
def slope : ℝ := 13421773 / 134217728

theorem slope_le : slope ≤ 1 := by unfold slope; norm_num

/-- One value after the normalisation: scaled by the inverse root of its own square plus `eps`, then by the layer's weight and bias. -/
def norm (w b u : ℝ) : ℝ := w * (u * (Real.sqrt (u * u + eps))⁻¹) + b

/-- The leaky rectifier as a maximum. -/
def leaky (g : ℝ) : ℝ := max g (slope * g)

/-- A node's row times a matrix, at one column. -/
def dot (r : Row) (A : Mat) (f : Fin 128) : ℝ := ∑ e, r e * A e f

/-- Four taps: node `n` and the three nodes before it, each through its own matrix, plus a bias. -/
def taps (A : Fin 4 → Mat) (b : Row) (X : Nodes) (n : ℤ) (f : Fin 128) : ℝ :=
  dot (X n) (A 0) f + dot (X (n - 1)) (A 1) f + dot (X (n - 2)) (A 2) f + dot (X (n - 3)) (A 3) f + b f

/-- The network's parameters as reals: per layer the four Chebyshev matrices, the bias, and the normalisation's weight, bias and mean scale. -/
structure Params where
  W : Fin 4 → Fin 4 → Mat
  cb : Fin 4 → Row
  gw : Fin 4 → Row
  gb : Fin 4 → Row
  ms : Fin 4 → Row
  x : Fin 100000 → Row

namespace Params

variable (P : Params)

/-- The input features on all the integers: zero off the 100000 nodes. -/
def x0 : Nodes := fun n f => if h : 0 ≤ n ∧ n < 100000 then P.x ⟨n.toNat, by omega⟩ f else 0

/-! ## The taps form -/

/-- The four tap matrices of layer `i`, the mean subtraction folded in. -/
def A (i : Fin 4) (k : Fin 4) : Mat := fun e f =>
  (match k with
    | 0 => P.W i 0 e f - P.W i 2 e f
    | 1 => 3 * P.W i 3 e f - P.W i 1 e f
    | 2 => 2 * P.W i 2 e f
    | 3 => -4 * P.W i 3 e f) * (1 - P.ms i f)

/-- The bias of layer `i`, the mean subtraction folded in. -/
def c (i : Fin 4) : Row := fun f => P.cb i f * (1 - P.ms i f)

/-- Layer `i`'s normalised value at a node. -/
def g (i : Fin 4) (X : Nodes) (n : ℤ) (f : Fin 128) : ℝ := norm (P.gw i f) (P.gb i f) (taps (P.A i) (P.c i) X n f)

/-- Layer `i` on all nodes; nodes below zero stay zero. -/
def step (i : Fin 4) (X : Nodes) : Nodes := fun n f => if n < 0 then 0 else leaky (P.g i X n f)

def X1 : Nodes := P.step 0 P.x0
def X2 : Nodes := P.step 1 P.X1
def X3 : Nodes := P.step 2 P.X2

/-- The last layer with its residual and rectifier, before the pool. -/
def X4 : Nodes := fun n f => max (P.x0 n f + P.g 3 P.X3 n f) 0

/-! ## The last node's own chain: no edge reaches it with a nonzero weight -/

/-- Layer `i` of the last node: only the first tap. -/
def gLast (i : Fin 4) (r : Row) : Row := fun f => norm (P.gw i f) (P.gb i f) (dot r (P.A i 0) f + P.c i f)

def v1 : Row := fun f => leaky (P.gLast 0 (P.x0 99999) f)
def v2 : Row := fun f => leaky (P.gLast 1 P.v1 f)
def v3 : Row := fun f => leaky (P.gLast 2 P.v2 f)
def v4 : Row := fun f => max (P.x0 99999 f + P.gLast 3 P.v3 f) 0

/-! ## The Chebyshev form -/

/-- One propagation along the chain: minus the previous node, for the nodes 1 to 99998; zero elsewhere. -/
def prop (X : Nodes) : Nodes := fun n f => if 1 ≤ n ∧ n ≤ 99998 then - X (n - 1) f else 0

def T1 (X : Nodes) : Nodes := prop X
def T2 (X : Nodes) : Nodes := fun n f => 2 * prop (T1 X) n f - X n f
def T3 (X : Nodes) : Nodes := fun n f => 2 * prop (T2 X) n f - T1 X n f

/-- Layer `i`'s convolution. -/
def conv (i : Fin 4) (X : Nodes) (n : ℤ) (f : Fin 128) : ℝ :=
  dot (X n) (P.W i 0) f + dot (T1 X n) (P.W i 1) f + dot (T2 X n) (P.W i 2) f + dot (T3 X n) (P.W i 3) f + P.cb i f

/-- The convolution less its mean over the one graph, scaled. -/
def cen (i : Fin 4) (X : Nodes) (n : ℤ) (f : Fin 128) : ℝ := P.conv i X n f - P.conv i X n f * P.ms i f

/-- The normalised value as a quotient. -/
def rg (i : Fin 4) (X : Nodes) (n : ℤ) (f : Fin 128) : ℝ :=
  P.gw i f * P.cen i X n f / Real.sqrt (P.cen i X n f * P.cen i X n f + eps) + P.gb i f

/-- The leaky rectifier as a choice. -/
def rstep (i : Fin 4) (X : Nodes) : Nodes := fun n f =>
  if n < 0 then 0 else if 0 ≤ P.rg i X n f then P.rg i X n f else slope * P.rg i X n f

def R1 : Nodes := P.rstep 0 P.x0
def R2 : Nodes := P.rstep 1 P.R1
def R3 : Nodes := P.rstep 2 P.R2
def R4 : Nodes := fun n f => max (P.x0 n f + P.rg 3 P.R3 n f) 0

/-- The sum the kernel pools: all nodes by the taps form, the last node exchanged for its own chain. -/
def total (f : Fin 128) : ℝ := (∑ n ∈ Finset.range 100000, P.X4 (n : ℤ) f) + (P.v4 f - P.X4 99999 f)

/-! ## They agree -/

theorem leaky_eq (g : ℝ) : (if 0 ≤ g then g else slope * g) = leaky g := by
  have h0 : 0 < slope := by unfold slope; norm_num
  unfold leaky
  split
  · next h => exact (max_eq_left (by nlinarith [slope_le])).symm
  · next h => exact (max_eq_right (by nlinarith [slope_le])).symm

theorem rg_eq (i : Fin 4) (X : Nodes) (n : ℤ) (f : Fin 128) : P.rg i X n f = norm (P.gw i f) (P.gb i f) (P.cen i X n f) := by
  unfold rg norm
  rw [div_eq_mul_inv, mul_assoc]

/-- A dot product against a sum, a difference and multiples of rows. -/
theorem dot_add (r s : Row) (A : Mat) (f : Fin 128) : dot (fun e => r e + s e) A f = dot r A f + dot s A f := by
  simp only [dot, add_mul, Finset.sum_add_distrib]

/-- The convolution at a node other than the last, by the nodes before it. -/
theorem cen_eq (i : Fin 4) (X : Nodes) (hX : ∀ n f, n < 0 → X n f = 0) (n : ℤ) (h0 : 0 ≤ n) (h1 : n < 99999) (f : Fin 128) :
    P.cen i X n f = taps (P.A i) (P.c i) X n f := by
  have hp : ∀ (Y : Nodes), (∀ n f, n < 0 → Y n f = 0) → ∀ m f, m ≤ 99998 → prop Y m f = - Y (m - 1) f := by
    intro Y hY m f hm
    unfold prop
    split
    · rfl
    · rw [hY _ _ (by omega), neg_zero]
  have hT1 : ∀ m f, m ≤ 99998 → T1 X m f = - X (m - 1) f := hp X hX
  have hT1n : ∀ m f, m < 0 → T1 X m f = 0 := fun m f hm => by rw [hT1 m f (by omega), hX _ _ (by omega), neg_zero]
  have hT2 : ∀ m f, m ≤ 99998 → T2 X m f = 2 * X (m - 2) f - X m f := fun m f hm => by
    unfold T2
    rw [hp _ hT1n m f hm, hT1 _ _ (by omega), neg_neg, sub_sub]; rfl
  have hT2n : ∀ m f, m < 0 → T2 X m f = 0 := fun m f hm => by
    rw [hT2 m f (by omega), hX _ _ (by omega), hX _ _ hm]; ring
  have hT3 : ∀ m f, m ≤ 99998 → T3 X m f = 3 * X (m - 1) f - 4 * X (m - 3) f := fun m f hm => by
    unfold T3
    rw [hp _ hT2n m f hm, hT2 _ _ (by omega), hT1 _ _ hm, sub_sub]
    norm_num
    ring
  unfold cen conv taps dot c
  rw [show ∀ a b : ℝ, a - a * b = a * (1 - b) from fun a b => by ring]
  rw [add_mul]
  congr 1
  simp only [← Finset.sum_add_distrib, Finset.sum_mul]
  refine Finset.sum_congr rfl fun e _ => ?_
  rw [hT1 n e (by omega), hT2 n e (by omega), hT3 n e (by omega)]
  simp only [A]
  ring

/-- The convolution at the last node: only its own row. -/
theorem cen_last (i : Fin 4) (X : Nodes) (f : Fin 128) :
    P.cen i X 99999 f = dot (X 99999) (P.A i 0) f + P.c i f := by
  have hp : ∀ (Y : Nodes) f, prop Y 99999 f = 0 := by
    intro Y f
    unfold prop
    rw [if_neg (by omega)]
  have hT1 : ∀ f, T1 X 99999 f = 0 := hp X
  have hT2 : ∀ f, T2 X 99999 f = - X 99999 f := fun f => by
    unfold T2
    rw [hp]; ring
  have hT3 : ∀ f, T3 X 99999 f = 0 := fun f => by
    unfold T3
    rw [hp, hT1]; ring
  unfold cen conv dot c
  rw [show ∀ a b : ℝ, a - a * b = a * (1 - b) from fun a b => by ring]
  rw [add_mul]
  congr 1
  simp only [← Finset.sum_add_distrib, Finset.sum_mul]
  refine Finset.sum_congr rfl fun e _ => ?_
  rw [hT1, hT2, hT3]
  simp only [A]
  ring

theorem x0_neg (n : ℤ) (f : Fin 128) (h : n < 0) : P.x0 n f = 0 := by
  unfold x0
  rw [dif_neg (by omega)]

theorem step_neg (i : Fin 4) (X : Nodes) (n : ℤ) (f : Fin 128) (h : n < 0) : P.step i X n f = 0 := if_pos h
theorem rstep_neg (i : Fin 4) (X : Nodes) (n : ℤ) (f : Fin 128) (h : n < 0) : P.rstep i X n f = 0 := if_pos h

/-- The four taps read no node past `n`. -/
theorem taps_congr (A : Fin 4 → Mat) (b : Row) (X Y : Nodes) (n : ℤ) (h : ∀ m f, m ≤ n → X m f = Y m f) (f : Fin 128) :
    taps A b X n f = taps A b Y n f := by
  have e : ∀ m, m ≤ n → X m = Y m := fun m hm => funext fun f => h m f hm
  unfold taps
  rw [e n le_rfl, e (n - 1) (by omega), e (n - 2) (by omega), e (n - 3) (by omega)]

/-- One layer: where the two chains agree before the last node, they agree after it, there. -/
theorem rstep_eq (i : Fin 4) (X Y : Nodes) (hX : ∀ n f, n < 0 → X n f = 0) (h : ∀ n f, n < 99999 → X n f = Y n f) (n : ℤ) (f : Fin 128)
    (hn : n < 99999) : P.rstep i X n f = P.step i Y n f := by
  unfold rstep step
  split
  · rfl
  · rw [leaky_eq, rg_eq, P.cen_eq i X hX n (by omega) hn, taps_congr _ _ X Y n (fun m f hm => h m f (by omega))]; rfl

/-- One layer at the last node. -/
theorem rstep_last (i : Fin 4) (X : Nodes) (f : Fin 128) : P.rstep i X 99999 f = leaky (P.gLast i (X 99999) f) := by
  unfold rstep
  rw [if_neg (by omega), leaky_eq, rg_eq, P.cen_last]; rfl

theorem R1_eq (n : ℤ) (f : Fin 128) (hn : n < 99999) : P.R1 n f = P.X1 n f :=
  P.rstep_eq 0 _ _ P.x0_neg (fun _ _ _ => rfl) n f hn
theorem R2_eq (n : ℤ) (f : Fin 128) (hn : n < 99999) : P.R2 n f = P.X2 n f :=
  P.rstep_eq 1 _ _ (P.rstep_neg 0 _) P.R1_eq n f hn
theorem R3_eq (n : ℤ) (f : Fin 128) (hn : n < 99999) : P.R3 n f = P.X3 n f :=
  P.rstep_eq 2 _ _ (P.rstep_neg 1 _) P.R2_eq n f hn

theorem R1_last : P.R1 99999 = P.v1 := funext fun f => P.rstep_last 0 _ f
theorem R2_last : P.R2 99999 = P.v2 := funext fun f => by rw [R2, P.rstep_last, R1_last]; rfl
theorem R3_last : P.R3 99999 = P.v3 := funext fun f => by rw [R3, P.rstep_last, R2_last]; rfl

theorem R4_eq (n : ℤ) (f : Fin 128) (h0 : 0 ≤ n) (hn : n < 99999) : P.R4 n f = P.X4 n f := by
  unfold R4 X4 g
  rw [rg_eq, P.cen_eq 3 P.R3 (P.rstep_neg 2 _) n h0 hn, taps_congr _ _ P.R3 P.X3 n (fun m f hm => P.R3_eq m f (by omega))]

theorem R4_last (f : Fin 128) : P.R4 99999 f = P.v4 f := by
  unfold R4 v4
  rw [rg_eq, P.cen_last, R3_last]; rfl

/-- The reference's sum over the nodes is the sum the kernel pools. -/
theorem sum_R4 (f : Fin 128) : ∑ n ∈ Finset.range 100000, P.R4 (n : ℤ) f = P.total f := by
  have e : ∀ F : ℕ → ℝ, ∑ n ∈ Finset.range 100000, F n = ∑ n ∈ Finset.range 99999, F n + F 99999 :=
    fun F => Finset.sum_range_succ F 99999
  unfold total
  rw [e, e, show (∑ n ∈ Finset.range 99999, P.R4 (n : ℤ) f) = ∑ n ∈ Finset.range 99999, P.X4 (n : ℤ) f from
    Finset.sum_congr rfl fun n hn => P.R4_eq (n : ℤ) f (by omega) (by have := Finset.mem_range.1 hn; omega)]
  rw [show ((99999 : ℕ) : ℤ) = 99999 from rfl, R4_last]
  ring

end Params

/-! ## Pairs of nodes -/

/-- Node values as rows of node PAIRS: pair `q`, lane `l` of 256 (the even node's 128 features, then the odd node's). -/
def pair (X : Nodes) (q : ℤ) (l : Fin 256) : ℝ := X (2 * q + ((l.val / 128 : ℕ) : ℤ)) ⟨l.val % 128, Nat.mod_lt _ (by omega)⟩

/-- Row `k` of the 768 stacked lanes of pair `q`: the pair itself, the pair before it, the pair before that. -/
def stack (X : Nodes) (q : ℤ) (k : Fin 768) : ℝ := pair X (q - ((k.val / 256 : ℕ) : ℤ)) ⟨k.val % 256, Nat.mod_lt _ (by omega)⟩

/-- Block `(r, h)` of the matrix below: which tap the block row `r` is for the even node (`h = 0`) and for the odd node (`h = 1`). -/
def tapAt (A : Fin 4 → Mat) (r h : ℕ) : Mat :=
  match r, h with
  | 0, 0 => A 0
  | 0, 1 => A 1
  | 1, 1 => A 0
  | 2, 0 => A 2
  | 2, 1 => A 3
  | 3, 0 => A 1
  | 3, 1 => A 2
  | 5, 0 => A 3
  | _, _ => fun _ _ => 0

/-- The 768 × 256 matrix of the four taps: block rows of 128 rows, the even node's columns then the odd node's. -/
def blocks (A : Fin 4 → Mat) (k : Fin 768) (l : Fin 256) : ℝ :=
  tapAt A (k.val / 128) (l.val / 128) ⟨k.val % 128, Nat.mod_lt _ (by omega)⟩ ⟨l.val % 128, Nat.mod_lt _ (by omega)⟩

/-- A sum over 768 rows as six sums over 128. -/
theorem sum768 (F : Fin 768 → ℝ) : ∑ k, F k = ∑ r : Fin 6, ∑ e : Fin 128, F ⟨128 * r.val + e.val, by omega⟩ := by
  rw [← Fintype.sum_prod_type', ← (finProdFinEquiv (m := 6) (n := 128)).sum_comp]
  refine Finset.sum_congr rfl fun p _ => congrArg F (Fin.ext ?_)
  show p.2.val + 128 * p.1.val = 128 * p.1.val + p.2.val
  omega

/-- The stacked rows times the block matrix, plus the tiled bias, is the four taps at the lane's node. -/
theorem stack_blocks (A : Fin 4 → Mat) (b : Row) (X : Nodes) (q : ℤ) (l : Fin 256) :
    (∑ k, stack X q k * blocks A k l) + b ⟨l.val % 128, Nat.mod_lt _ (by omega)⟩
      = taps A b X (2 * q + ((l.val / 128 : ℕ) : ℤ)) ⟨l.val % 128, Nat.mod_lt _ (by omega)⟩ := by
  rw [sum768]
  have hs : ∀ (r : ℕ) (hr : r < 6) (e : Fin 128), stack X q ⟨128 * r + e.val, by omega⟩
      = X (2 * (q - ((r / 2 : ℕ) : ℤ)) + ((r % 2 : ℕ) : ℤ)) e := by
    intro r hr e
    unfold stack pair
    have he := e.isLt
    have e1 : (128 * r + e.val) / 256 = r / 2 := by omega
    have e2 : (128 * r + e.val) % 256 / 128 = r % 2 := by omega
    have e3 : (128 * r + e.val) % 256 % 128 = e.val := by omega
    simp only [e1, e2, e3]
  have hb : ∀ (r : ℕ) (hr : r < 6) (e : Fin 128), blocks A ⟨128 * r + e.val, by omega⟩ l
      = tapAt A r (l.val / 128) e ⟨l.val % 128, Nat.mod_lt _ (by omega)⟩ := by
    intro r hr e
    unfold blocks
    have he := e.isLt
    have e1 : (128 * r + e.val) / 128 = r := by omega
    have e2 : (128 * r + e.val) % 128 = e.val := by omega
    simp only [e1, e2]
  simp only [Fin.sum_univ_six]
  have c0 : ∀ r : Fin 6, (∑ e : Fin 128, stack X q ⟨128 * r.val + e.val, by omega⟩ * blocks A ⟨128 * r.val + e.val, by omega⟩ l)
      = ∑ e : Fin 128, X (2 * (q - ((r.val / 2 : ℕ) : ℤ)) + ((r.val % 2 : ℕ) : ℤ)) e
        * tapAt A r.val (l.val / 128) e ⟨l.val % 128, Nat.mod_lt _ (by omega)⟩ :=
    fun r => Finset.sum_congr rfl fun e _ => by rw [hs r.val r.isLt e, hb r.val r.isLt e]
  rw [c0 0, c0 1, c0 2, c0 3, c0 4, c0 5]
  unfold taps dot
  have hl : l.val / 128 = 0 ∨ l.val / 128 = 1 := by omega
  rcases hl with hl | hl
  · simp only [hl]
    norm_num [tapAt]
    rw [show 2 * (q - 1) = 2 * q - 2 by ring, show 2 * q - 2 + 1 = 2 * q - 1 by ring, show 2 * (q - 2) + 1 = 2 * q - 3 by ring]
    ring
  · simp only [hl]
    norm_num [tapAt]
    rw [show 2 * (q - 1) = 2 * q + 1 - 3 by ring, show 2 * q + 1 - 3 + 1 = 2 * q + 1 - 2 by ring]
    ring

/-- Two half-sums over pairs are the sum over the nodes. -/
theorem sum_pairs (X : Nodes) (f : Fin 128) (N : ℕ) :
    (∑ q ∈ Finset.range N, X (2 * (q : ℤ) + 0) f) + (∑ q ∈ Finset.range N, X (2 * (q : ℤ) + 1) f)
      = ∑ n ∈ Finset.range (2 * N), X (n : ℤ) f := by
  induction N with
  | zero => simp
  | succ N ih =>
    rw [Finset.sum_range_succ, Finset.sum_range_succ, show 2 * (N + 1) = 2 * N + 1 + 1 by ring, Finset.sum_range_succ,
      Finset.sum_range_succ, ← ih]
    push_cast
    rw [add_zero]
    ring

/-! ## Finite sums of reals inside the extended reals -/

theorem coe_sum {ι : Type*} (s : Finset ι) (F : ι → ℝ) : ∑ i ∈ s, ((F i : ℝ) : EReal) = ((∑ i ∈ s, F i : ℝ) : EReal) := by
  classical
  induction s using Finset.induction_on with
  | empty => simp
  | insert a s ha ih => rw [Finset.sum_insert ha, Finset.sum_insert ha, ih, EReal.coe_add]

end Cert.Net

end
-- ==== Proof.Scalars.lean ====
/-
  One value of the network inside the extended reals: on reals, each program's scalar expression is the coercion of the
  real function of Proof/Net.lean.
-/
module

public import Idealize.ShloMosaic.PureOps.Ideal
public import proofs.«01_k».proof.Proof.Consts
public import proofs.«01_k».proof.Proof.Net

@[expose] public section

noncomputable section

namespace Cert.Scalars

open Idealize.ShloMosaic Cert.Net

theorem coe_max (a b : ℝ) : max (a : EReal) (b : EReal) = ((max a b : ℝ) : EReal) :=
  ((EReal.coe_strictMono.monotone).map_max (a := a) (b := b)).symm

/-- The kernel's normalisation on reals. -/
theorem norm_coe (w b u : ℝ) :
    (w : EReal) * ((u : EReal) * Ideal.rsqrt ((u : EReal) * (u : EReal) + ((eps : ℝ) : EReal))) + (b : EReal) = ((norm w b u : ℝ) : EReal) := by
  have h : 0 < u * u + eps := add_pos_of_nonneg_of_pos (mul_self_nonneg u) eps_pos
  rw [← EReal.coe_mul, ← EReal.coe_add, Ideal.rsqrt_coe, if_neg (not_lt.2 h.le), if_neg h.ne', ← EReal.coe_mul, ← EReal.coe_mul,
    ← EReal.coe_add]
  rfl

/-- The kernel's leaky rectifier on reals. -/
theorem leaky_coe (g : ℝ) : max (g : EReal) (Ideal.ofBits .f32 0x3DCCCCCD#32 * (g : EReal)) = ((leaky g : ℝ) : EReal) := by
  rw [Consts.ofBits_tenth, ← EReal.coe_mul, coe_max]; rfl

/-- The reference's leaky rectifier on reals. -/
theorem where_coe (g : ℝ) : (if (0 : EReal) ≤ (g : EReal) then (g : EReal) else Ideal.ofBits .f32 0x3DCCCCCD#32 * (g : EReal))
    = (((if 0 ≤ g then g else slope * g : ℝ)) : EReal) := by
  rw [Consts.ofBits_tenth, ← EReal.coe_mul]
  by_cases h : 0 ≤ g
  · rw [if_pos h, if_pos (by exact_mod_cast h)]
  · rw [if_neg h, if_neg (by exact_mod_cast h)]; rfl

theorem div_real (a b : ℝ) (h : b ≠ 0) : Ideal.div (a : EReal) (b : EReal) = ((a / b : ℝ) : EReal) := by
  rw [Ideal.div_coe h, ← EReal.coe_mul, one_div, div_eq_mul_inv]

/-- The reference's offset: the quotient of 1 by 100000. -/
theorem eps_coe : Ideal.div (Ideal.ofBits .f32 0x3F800000#32) (Ideal.ofBits .f32 0x47C35000#32) = ((eps : ℝ) : EReal) := by
  rw [Consts.ofBits_one, Consts.ofBits_nodes, div_real _ _ (by norm_num)]; rfl

/-- The reference's centring on reals: the mean over the one graph is the value itself. -/
theorem centre_coe (u ms : ℝ) :
    (u : EReal) - Ideal.div (0 + (u : EReal)) (Ideal.ofBits .f32 0x3F800000#32) * (ms : EReal) = ((u - u * ms : ℝ) : EReal) := by
  rw [Consts.ofBits_one, zero_add, div_real _ _ (by norm_num), div_one, ← EReal.coe_mul, ← EReal.coe_sub]

/-- The reference's normalisation on reals: the variance over the one graph is the square itself. -/
theorem quot_coe (w b o : ℝ) :
    Ideal.div ((w : EReal) * (o : EReal)) (Ideal.sqrt (Ideal.div (0 + (o : EReal) * (o : EReal)) (Ideal.ofBits .f32 0x3F800000#32)
      + Ideal.div (Ideal.ofBits .f32 0x3F800000#32) (Ideal.ofBits .f32 0x47C35000#32))) + (b : EReal)
      = ((w * o / Real.sqrt (o * o + eps) + b : ℝ) : EReal) := by
  have h : 0 < o * o + eps := add_pos_of_nonneg_of_pos (mul_self_nonneg o) eps_pos
  rw [eps_coe, Consts.ofBits_one, zero_add, ← EReal.coe_mul, ← EReal.coe_mul, div_real _ _ (by norm_num), div_one, ← EReal.coe_add, Ideal.sqrt_coe,
    if_neg (not_lt.2 h.le), div_real _ _ (Real.sqrt_pos.2 h).ne', ← EReal.coe_add]

end Cert.Scalars

end
-- ==== Proof.Layer.lean ====
/-
  One layer of the kernel on a block of 10000 node pairs, as operations on vectors, and its value at every index: when the
  block and the two pairs before it hold the node values `X`, the layer's result holds the taps of `X`, normalised.
-/
module

public import Idealize.ShloMosaic.Lib.Pointwise
public import proofs.«01_k».proof.Proof.Gen.KernelIdeal.Skeleton
public import proofs.«01_k».proof.Proof.Scalars

@[expose] public section

set_option maxRecDepth 16384

noncomputable section

namespace Cert.KernelIdeal.Layer

open Idealize.ShloMosaic Cert.KernelIdeal Cert.KernelIdeal.Gen Cert.Net

/-! ## The operations -/

/-- The two pairs before the block, on top of the block. -/
def ext (h : Vec Ideal S1x2x256 .f32) (x : FVec Ideal S10000x256 .f32) : FVec Ideal S10002x256 .f32 :=
  concatenate S10002x256 0 [⟨S2x256, shapeCast S2x256 h shapeCasts_S1x2x256_S2x256⟩, ⟨S10000x256, x⟩] concatenates_S2x256_S10000x256_S10002x256_d0

/-- Each pair's row, beside the row of the pair before it, beside the one before that. -/
def zc (h : Vec Ideal S1x2x256 .f32) (x : FVec Ideal S10000x256 .f32) : FVec Ideal S10000x768 .f32 :=
  concatenate S10000x768 1 [⟨S10000x256, x⟩,
    ⟨S10000x256, extractStridedSlice S10000x256 ![1, 0] (ext h x) slices_S10002x256_o1_0_S10000x256⟩,
    ⟨S10000x256, extractStridedSlice S10000x256 ![0, 0] (ext h x) slices_S10002x256_o0_0_S10000x256⟩] concatenates_S10000x256_S10000x256_S10000x256_S10000x768_d1

/-- A row of 256 over all the block's rows. -/
def rows (b : Vec Ideal S1x256 .f32) : FVec Ideal S10000x256 .f32 :=
  broadcastTo S10000x256 (shapeCast S1x256 (shapeCast S256 b shapeCasts_S1x256_S256) shapeCasts_S256_S1x256) broadcasts_S1x256_S10000x256

/-- The layer's product and bias. -/
def uT (h : Vec Ideal S1x2x256 .f32) (x : FVec Ideal S10000x256 .f32) (A : Vec Ideal S1x768x256 .f32) (cb : Vec Ideal S1x256 .f32) :
    FVec Ideal S10000x256 .f32 :=
  addf (matmul dot_S10000x768_S768x256_S10000x256_1_0_0_1_n_n none (zc h x)
    (show FVec Ideal S768x256 .f32 from shapeCast S768x256 A shapeCasts_S1x768x256_S768x256) (constant S10000x256 .f32 0x00000000#32)) (rows cb)

/-- The normalisation. -/
def gT (gw gb : Vec Ideal S1x256 .f32) (u : FVec Ideal S10000x256 .f32) : FVec Ideal S10000x256 .f32 :=
  addf (mulf (rows gw) (mulf u (rsqrt (addf (mulf u u) (broadcast S10000x256 (Named.named κ "hundred_thousandth" (φ := .f32) 0x3727C5AC#32)))))) (rows gb)

/-- The leaky rectifier. -/
def actT (g : FVec Ideal S10000x256 .f32) : FVec Ideal S10000x256 .f32 :=
  maximumf g (mulf (broadcast S10000x256 (Scalar.ofBits (F := Ideal) .f32 0x3DCCCCCD#32)) g)

/-- The residual and the rectifier. -/
def resT (x g : FVec Ideal S10000x256 .f32) : FVec Ideal S10000x256 .f32 :=
  maximumf (addf x g) (broadcast S10000x256 (Scalar.ofBits (F := Ideal) .f32 0x00000000#32))

/-- The block's last two pairs. -/
def tailT (x : FVec Ideal S10000x256 .f32) : FVec Ideal S1x2x256 .f32 :=
  shapeCast S1x2x256 (extractStridedSlice S2x256 ![9998, 0] x slices_S10000x256_o9998_0_S2x256) shapeCasts_S2x256_S1x2x256

/-- A row plus the block's column sums. -/
def accT (o : Vec Ideal S1x256 .f32) (x : FVec Ideal S10000x256 .f32) : FVec Ideal S1x256 .f32 :=
  addf (shapeCast S1x256 o shapeCasts_S1x256_S1x256)
    (shapeCast S1x256 (multiReduction .add [0] S256 x 0x00000000#32 reduces_S10000x256_S256 (.inl rfl) rfl) shapeCasts_S256_S1x256)

/-! ## The payloads are these operations -/

theorem pay10_eq (v3 : Vec Ideal S20000x128 .f32) : k0_pay10 v3 = tailT (k0_pay9 v3) := rfl
theorem pay14_eq (v3 : Vec Ideal S20000x128 .f32) (v6 : Vec Ideal S1x2x256 .f32) (v16 : Vec Ideal S1x768x256 .f32) (v19 v24 v27 : Vec Ideal S1x256 .f32) :
    k0_pay14 (k0_pay11 v27) (k0_pay12 v3 v6 v16 v19) (k0_pay13 v24) = actT (gT v24 v27 (uT v6 (k0_pay9 v3) v16 v19)) := rfl
theorem pay15_eq (v29 : FVec Ideal S1x256 .f32) (v34 v35 : FVec Ideal S10000x256 .f32) : k0_pay15 v29 v34 v35 = tailT (k0_pay14 v29 v34 v35) := rfl
theorem pay16_eq (v29 : FVec Ideal S1x256 .f32) (v34 v35 : FVec Ideal S10000x256 .f32) (v42 : Vec Ideal S1x2x256 .f32) (v52 : Vec Ideal S1x768x256 .f32)
    (v55 v60 v63 : Vec Ideal S1x256 .f32) : k0_pay16 v29 v34 v35 v42 v52 v55 v60 v63 = gT v60 v63 (uT v42 (k0_pay14 v29 v34 v35) v52 v55) := rfl
theorem pay18_eq (v74 : FVec Ideal S10000x256 .f32) : k0_pay18 v74 k0_pay17 = actT v74 := rfl
theorem pay19_eq (v74 v75 : FVec Ideal S10000x256 .f32) : k0_pay19 v74 v75 = tailT (k0_pay18 v74 v75) := rfl
theorem pay20_eq (v74 v75 : FVec Ideal S10000x256 .f32) (v78 : Vec Ideal S1x2x256 .f32) (v88 : Vec Ideal S1x768x256 .f32) (v91 v96 v99 : Vec Ideal S1x256 .f32) :
    k0_pay20 v74 v75 v78 v88 v91 v96 v99 = actT (gT v96 v99 (uT v78 (k0_pay18 v74 v75) v88 v91)) := rfl
theorem pay21_eq (v113 : FVec Ideal S10000x256 .f32) : k0_pay21 v113 = tailT v113 := rfl
theorem pay22_eq (v5 v113 : FVec Ideal S10000x256 .f32) (v114 : Vec Ideal S1x2x256 .f32) (v124 : Vec Ideal S1x768x256 .f32) (v127 v132 v135 : Vec Ideal S1x256 .f32) :
    k0_pay22 v5 v113 v114 v124 v127 v132 v135 = resT v5 (gT v132 v135 (uT v114 v113 v124 v127)) := rfl
theorem pay23_eq (v5 v113 : FVec Ideal S10000x256 .f32) (v114 : Vec Ideal S1x2x256 .f32) (v124 : Vec Ideal S1x768x256 .f32) (v127 v132 v135 v150 : Vec Ideal S1x256 .f32) :
    k0_pay23 v5 v113 v114 v124 v127 v132 v135 v150 = accT v150 (k0_pay22 v5 v113 v114 v124 v127 v132 v135) := rfl

/-! ## What the vectors hold -/

/-- The lane's feature. -/
abbrev feat (l : Fin 256) : Fin 128 := ⟨l.val % 128, Nat.mod_lt _ (by omega)⟩

/-- A block holds the pairs of `X` from pair `q0` on. -/
def IsPairs (X : Nodes) (q0 : ℤ) (v : FVec Ideal S10000x256 .f32) : Prop :=
  ∀ (p : Fin 10000) (l : Fin 256), v (ix2 p l) = ((pair X (q0 + (p.val : ℤ)) l : ℝ) : EReal)

/-- Two rows hold the two pairs of `X` before pair `q0`. -/
def IsHalo (X : Nodes) (q0 : ℤ) (h : Vec Ideal S1x2x256 .f32) : Prop :=
  ∀ (r : Fin 2) (l : Fin 256), h (ix3 (0 : Fin 1) r l) = ((pair X (q0 - 2 + (r.val : ℤ)) l : ℝ) : EReal)

/-- A matrix holds the block matrix of four taps. -/
def IsBlocks (A : Fin 4 → Mat) (v : Vec Ideal S1x768x256 .f32) : Prop :=
  ∀ (k : Fin 768) (l : Fin 256), v (ix3 (0 : Fin 1) k l) = ((blocks A k l : ℝ) : EReal)

/-- A row of 256 holds a row of 128 twice. -/
def IsTile (b : Row) (v : Vec Ideal S1x256 .f32) : Prop :=
  ∀ l : Fin 256, v (ix2 (0 : Fin 1) l) = ((b (feat l) : ℝ) : EReal)

/-- The named constant is 1/100000. -/
theorem named_eps : Named.named (F := Ideal) κ "hundred_thousandth" (φ := .f32) 0x3727C5AC#32 = ((eps : ℝ) : EReal) :=
  IdealRules.named_const.ideal_named_scalar _ _ _ _ rfl

theorem rows_at (b : Row) (v : Vec Ideal S1x256 .f32) (hv : IsTile b v) (p : Fin 10000) (l : Fin 256) :
    rows v (ix2 p l) = ((b (feat l) : ℝ) : EReal) := by
  rw [← hv l]
  pointwise [rows]

theorem ext_at (X : Nodes) (q0 : ℤ) (h : Vec Ideal S1x2x256 .f32) (x : FVec Ideal S10000x256 .f32) (hh : IsHalo X q0 h) (hx : IsPairs X q0 x)
    (r : Fin 10002) (l : Fin 256) : ext h x (ix2 r l) = ((pair X (q0 - 2 + (r.val : ℤ)) l : ℝ) : EReal) := by
  pointwise [ext]
  split
  · next hr => exact hh ⟨r.val, hr⟩ l
  · next hr =>
    refine (hx ⟨r.val - 2, by omega⟩ l).trans ?_
    rw [show q0 + (((⟨r.val - 2, by omega⟩ : Fin 10000).val : ℕ) : ℤ) = q0 - 2 + (r.val : ℤ) by push_cast [show 2 ≤ r.val by omega]; ring]

theorem zc_at (X : Nodes) (q0 : ℤ) (h : Vec Ideal S1x2x256 .f32) (x : FVec Ideal S10000x256 .f32) (hh : IsHalo X q0 h) (hx : IsPairs X q0 x)
    (p : Fin 10000) (k : Fin 768) : zc h x (ix2 p k) = ((stack X (q0 + (p.val : ℤ)) k : ℝ) : EReal) := by
  have hk := k.isLt
  have hp := p.isLt
  pointwise [zc]
  unfold stack
  split
  · next h1 =>
    refine (hx p ⟨k.val, h1⟩).trans ?_
    simp only [show k.val / 256 = 0 by omega, show k.val % 256 = k.val by omega, Nat.cast_zero, sub_zero]
  · next h1 =>
    split
    · next h2 =>
      refine (ext_at X q0 h x hh hx _ _).trans ?_
      simp only [show k.val / 256 = 1 by omega, show k.val % 256 = k.val - 256 by omega]
      congr 2
      push_cast
      ring
    · next h2 =>
      refine (ext_at X q0 h x hh hx _ _).trans ?_
      simp only [show k.val / 256 = 2 by omega, show k.val % 256 = k.val - 256 - 256 by omega]
      congr 2
      push_cast
      ring

/-- The layer's product and bias at a lane: the taps at the lane's node. -/
theorem uT_at (A : Fin 4 → Mat) (b : Row) (X : Nodes) (q0 : ℤ) (h : Vec Ideal S1x2x256 .f32) (x : FVec Ideal S10000x256 .f32) (hh : IsHalo X q0 h)
    (hx : IsPairs X q0 x) (M : Vec Ideal S1x768x256 .f32) (hM : IsBlocks A M) (cb : Vec Ideal S1x256 .f32) (hb : IsTile b cb) (p : Fin 10000) (l : Fin 256) :
    uT h x M cb (ix2 p l) = ((taps A b X (2 * (q0 + (p.val : ℤ)) + ((l.val / 128 : ℕ) : ℤ)) (feat l) : ℝ) : EReal) := by
  have e : ∀ k : Fin 768, zc h x (ix2 p k) * M (ix3 (0 : Fin 1) k l) = ((stack X (q0 + (p.val : ℤ)) k * blocks A k l : ℝ) : EReal) := fun k => by
    rw [zc_at X q0 h x hh hx, hM, EReal.coe_mul]
  rw [← stack_blocks, EReal.coe_add, ← coe_sum, ← rows_at b cb hb p l]
  simp only [← e]
  pointwise [uT]

theorem gT_at (w b : Row) (gw gb : Vec Ideal S1x256 .f32) (hw : IsTile w gw) (hb : IsTile b gb) (u : FVec Ideal S10000x256 .f32) (p : Fin 10000)
    (l : Fin 256) (y : ℝ) (hu : u (ix2 p l) = (y : EReal)) :
    gT gw gb u (ix2 p l) = ((norm (w (feat l)) (b (feat l)) y : ℝ) : EReal) := by
  rw [← Scalars.norm_coe, ← hu, ← rows_at w gw hw p l, ← rows_at b gb hb p l, ← named_eps]
  pointwise [gT]

theorem actT_at (g : FVec Ideal S10000x256 .f32) (p : Fin 10000) (l : Fin 256) (y : ℝ) (hg : g (ix2 p l) = (y : EReal)) :
    actT g (ix2 p l) = ((leaky y : ℝ) : EReal) := by
  rw [← Scalars.leaky_coe, ← hg]
  pointwise [actT]

theorem resT_at (x g : FVec Ideal S10000x256 .f32) (p : Fin 10000) (l : Fin 256) (a y : ℝ) (hx : x (ix2 p l) = (a : EReal)) (hg : g (ix2 p l) = (y : EReal)) :
    resT x g (ix2 p l) = ((max (a + y) 0 : ℝ) : EReal) := by
  rw [← Scalars.coe_max, EReal.coe_add, ← hx, ← hg]
  pointwise [resT]
  rfl

/-- A layer's normalised value at a lane. -/
theorem g_at (P : Params) (i : Fin 4) (X : Nodes) (q0 : ℤ) (h : Vec Ideal S1x2x256 .f32) (x : FVec Ideal S10000x256 .f32) (hh : IsHalo X q0 h)
    (hx : IsPairs X q0 x) (M : Vec Ideal S1x768x256 .f32) (hM : IsBlocks (P.A i) M) (cb gw gb : Vec Ideal S1x256 .f32) (hc : IsTile (P.c i) cb)
    (hw : IsTile (P.gw i) gw) (hb : IsTile (P.gb i) gb) (p : Fin 10000) (l : Fin 256) :
    gT gw gb (uT h x M cb) (ix2 p l) = ((P.g i X (2 * (q0 + (p.val : ℤ)) + ((l.val / 128 : ℕ) : ℤ)) (feat l) : ℝ) : EReal) :=
  gT_at _ _ gw gb hw hb _ p l _ (uT_at _ _ X q0 h x hh hx M hM cb hc p l)

/-- A layer takes the pairs of `X` to the pairs of `step i X`. -/
theorem layer_pairs (P : Params) (i : Fin 4) (X : Nodes) (q0 : ℤ) (hq : 0 ≤ q0) (h : Vec Ideal S1x2x256 .f32) (x : FVec Ideal S10000x256 .f32)
    (hh : IsHalo X q0 h) (hx : IsPairs X q0 x) (M : Vec Ideal S1x768x256 .f32) (hM : IsBlocks (P.A i) M) (cb gw gb : Vec Ideal S1x256 .f32)
    (hc : IsTile (P.c i) cb) (hw : IsTile (P.gw i) gw) (hb : IsTile (P.gb i) gb) : IsPairs (P.step i X) q0 (actT (gT gw gb (uT h x M cb))) := by
  intro p l
  rw [actT_at _ p l _ (g_at P i X q0 h x hh hx M hM cb gw gb hc hw hb p l)]
  unfold pair Params.step
  rw [if_neg (by omega)]

/-- The last layer, with its residual and rectifier. -/
theorem last_pairs (P : Params) (q0 : ℤ) (h : Vec Ideal S1x2x256 .f32) (x0 x : FVec Ideal S10000x256 .f32)
    (hh : IsHalo P.X3 q0 h) (hx0 : IsPairs P.x0 q0 x0) (hx : IsPairs P.X3 q0 x) (M : Vec Ideal S1x768x256 .f32) (hM : IsBlocks (P.A 3) M)
    (cb gw gb : Vec Ideal S1x256 .f32) (hc : IsTile (P.c 3) cb) (hw : IsTile (P.gw 3) gw) (hb : IsTile (P.gb 3) gb) :
    IsPairs P.X4 q0 (resT x0 (gT gw gb (uT h x M cb))) := by
  intro p l
  rw [resT_at _ _ p l _ _ (hx0 p l) (g_at P 3 P.X3 q0 h x hh hx M hM cb gw gb hc hw hb p l)]
  rfl

/-- The last two pairs of a block are the two pairs before the next block. -/
theorem tail_halo (X : Nodes) (q0 : ℤ) (x : FVec Ideal S10000x256 .f32) (hx : IsPairs X q0 x) : IsHalo X (q0 + 10000) (tailT x) := by
  intro r l
  have e : tailT x (ix3 (0 : Fin 1) r l) = x (ix2 (⟨r.val + 9998, by omega⟩ : Fin 10000) l) := by
    pointwise [tailT]
    simp only [Nat.add_comm]
  rw [e, hx]
  congr 2
  push_cast
  ring

/-- The accumulated row after a block. -/
theorem acc_at (X : Nodes) (q0 : ℤ) (o : Vec Ideal S1x256 .f32) (x : FVec Ideal S10000x256 .f32) (hx : IsPairs X q0 x) (l : Fin 256) (y : ℝ)
    (ho : o (ix2 (0 : Fin 1) l) = (y : EReal)) :
    accT o x (ix2 (0 : Fin 1) l) = ((y + ∑ p ∈ Finset.range 10000, pair X (q0 + (p : ℤ)) l : ℝ) : EReal) := by
  have e : ∑ p : Fin 10000, x (ix2 p l) = ((∑ p ∈ Finset.range 10000, pair X (q0 + (p : ℤ)) l : ℝ) : EReal) := by
    rw [Finset.sum_range, ← coe_sum]
    exact Finset.sum_congr rfl fun p _ => hx p l
  rw [EReal.coe_add, ← ho, ← e]
  pointwise [accT]

end Cert.KernelIdeal.Layer

end
-- ==== Proof.Last.lean ====
/-
  The last grid point's finish: the last node's own chain, the correction of the column sums, the mean, the linear layer and
  the softplus, with the value at every feature.
-/
module

public import proofs.«01_k».proof.Proof.Layer

@[expose] public section

set_option maxRecDepth 16384

noncomputable section

namespace Cert.KernelIdeal.Last

open Idealize.ShloMosaic Cert.KernelIdeal Cert.KernelIdeal.Gen Cert.KernelIdeal.Layer Cert.Net

/-! ## The operations -/

/-- The first half of a row of 256. -/
def half (b : Vec Ideal S1x256 .f32) : FVec Ideal S1x128 .f32 :=
  shapeCast S1x128 (extractStridedSlice S128 ![0] (shapeCast S256 b shapeCasts_S1x256_S256) slices_S256_o0_S128) shapeCasts_S128_S1x128

/-- The last node's product and bias. -/
def lu (r : FVec Ideal S1x128 .f32) (A : Vec Ideal S1x768x256 .f32) (cb : Vec Ideal S1x256 .f32) : FVec Ideal S1x128 .f32 :=
  addf (matmul dot_S1x128_S128x128_S1x128_1_0_0_1_n_n none r
    (show FVec Ideal S128x128 .f32 from extractStridedSlice S128x128 ![0, 0]
      (show FVec Ideal S768x256 .f32 from shapeCast S768x256 A shapeCasts_S1x768x256_S768x256) slices_S768x256_o0_0_S128x128)
    (constant S1x128 .f32 0x00000000#32)) (half cb)

/-- The last node's normalisation. -/
def lg (gw gb : Vec Ideal S1x256 .f32) (u : FVec Ideal S1x128 .f32) : FVec Ideal S1x128 .f32 :=
  addf (mulf (half gw) (mulf u (rsqrt (addf (mulf u u) (broadcast S1x128 (Named.named κ "hundred_thousandth" (φ := .f32) 0x3727C5AC#32)))))) (half gb)

/-- The last node's leaky rectifier. -/
def lact (g : FVec Ideal S1x128 .f32) : FVec Ideal S1x128 .f32 :=
  maximumf g (mulf (broadcast S1x128 (Scalar.ofBits (F := Ideal) .f32 0x3DCCCCCD#32)) g)

/-- The last node's residual and rectifier. -/
def lres (x g : FVec Ideal S1x128 .f32) : FVec Ideal S1x128 .f32 :=
  maximumf (addf x g) (broadcast S1x128 (Scalar.ofBits (F := Ideal) .f32 0x00000000#32))

/-- The last pair's second node. -/
def lastRow (x : FVec Ideal S10000x256 .f32) : FVec Ideal S1x128 .f32 :=
  extractStridedSlice S1x128 ![9999, 128] x slices_S10000x256_o9999_128_S1x128

/-- The corrected sums, over both halves, times 1/100000. -/
def mean (acc : Vec Ideal S1x256 .f32) (v w : FVec Ideal S1x128 .f32) : FVec Ideal S1x128 .f32 :=
  have s : FVec Ideal S1x256 .f32 := addf (shapeCast S1x256 acc shapeCasts_S1x256_S1x256)
    (concatenate S1x256 1 [⟨S1x128, broadcast S1x128 (Scalar.ofBits (F := Ideal) .f32 0x00000000#32)⟩, ⟨S1x128, subf v w⟩]
      concatenates_S1x128_S1x128_S1x256_d1)
  mulf (addf (extractStridedSlice S1x128 ![0, 0] s slices_S1x256_o0_0_S1x128) (extractStridedSlice S1x128 ![0, 128] s slices_S1x256_o0_128_S1x128))
    (broadcast S1x128 (Named.named κ "hundred_thousandth" (φ := .f32) 0x3727C5AC#32))

/-- The product with the linear layer's weight. -/
def lin (p : FVec Ideal S1x128 .f32) (w : Vec Ideal S128x128 .f32) : FVec Ideal S1x128 .f32 :=
  matmul dot_S1x128_S128x128_S1x128_1_1_0_0_n_n (some .fp32) p (show FVec Ideal S128x128 .f32 from w) (constant S1x128 .f32 0x00000000#32)

theorem pay3_eq (v5 : FVec Ideal S10000x256 .f32) (v160 : Vec Ideal S1x768x256 .f32) (v164 v169 v173 : Vec Ideal S1x256 .f32)
    (v187 : Vec Ideal S1x768x256 .f32) (v191 : Vec Ideal S1x256 .f32) :
    k0_pay3 v5 v160 v164 v169 v173 v187 v191 = lu (lact (lg v169 v173 (lu (lastRow v5) v160 v164))) v187 v191 := rfl

theorem pay5_eq (v195 : FVec Ideal S1x128 .f32) (v196 v200 : Vec Ideal S1x256 .f32) (v214 : Vec Ideal S1x768x256 .f32) (v218 v223 v227 : Vec Ideal S1x256 .f32) :
    k0_pay5 v195 (k0_pay4 v196) v200 v214 v218 v223 v227 = lact (lg v223 v227 (lu (lact (lg v196 v200 v195)) v214 v218)) := rfl

theorem pay6_eq (v149 : FVec Ideal S10000x256 .f32) (v159 v240 : FVec Ideal S1x128 .f32) (v241 : Vec Ideal S1x768x256 .f32)
    (v245 v250 v254 v268 : Vec Ideal S1x256 .f32) (v280 : Vec Ideal S128x128 .f32) :
    k0_pay6 v149 v159 v240 v241 v245 v250 v254 v268 v280
      = lin (mean v268 (lres v159 (lg v250 v254 (lu v240 v241 v245))) (lastRow v149)) v280 := rfl

/-! ## The values -/

/-- A row of 128 holds `r`. -/
def IsRow (r : Row) (v : FVec Ideal S1x128 .f32) : Prop := ∀ f : Fin 128, v (ix2 (0 : Fin 1) f) = ((r f : ℝ) : EReal)

theorem half_row (b : Row) (v : Vec Ideal S1x256 .f32) (hv : IsTile b v) : IsRow b (half v) := by
  intro f
  have hf := f.isLt
  have e : half v (ix2 (0 : Fin 1) f) = v (ix2 (0 : Fin 1) (⟨f.val, by omega⟩ : Fin 256)) := by pointwise [half]
  rw [e, hv]
  congr 3
  exact Fin.ext (Nat.mod_eq_of_lt hf)

theorem last_row (X : Nodes) (q0 : ℤ) (hq : q0 = 40000) (x : FVec Ideal S10000x256 .f32) (hx : IsPairs X q0 x) : IsRow (X 99999) (lastRow x) := by
  intro f
  have hf := f.isLt
  have e : lastRow x (ix2 (0 : Fin 1) f) = x (ix2 (⟨9999, by omega⟩ : Fin 10000) (⟨f.val + 128, by omega⟩ : Fin 256)) := by
    pointwise [lastRow]
    simp only [Nat.add_comm]
  rw [e, hx, hq]
  unfold pair
  congr 2
  · simp only [show (f.val + 128) / 128 = 1 by omega]; norm_num
  · exact Fin.ext (by simp only []; omega)

theorem lu_row (A : Fin 4 → Mat) (b r : Row) (x : FVec Ideal S1x128 .f32) (hx : IsRow r x) (M : Vec Ideal S1x768x256 .f32) (hM : IsBlocks A M)
    (cb : Vec Ideal S1x256 .f32) (hb : IsTile b cb) : IsRow (fun f => dot r (A 0) f + b f) (lu x M cb) := by
  intro f
  have hf := f.isLt
  have e : ∀ k : Fin 128, x (ix2 (0 : Fin 1) k) * M (ix3 (0 : Fin 1) (⟨k.val, by omega⟩ : Fin 768) (⟨f.val, by omega⟩ : Fin 256))
      = ((r k * A 0 k f : ℝ) : EReal) := fun k => by
    have hk := k.isLt
    have hA : blocks A (⟨k.val, by omega⟩ : Fin 768) (⟨f.val, by omega⟩ : Fin 256) = A 0 k f := by
      unfold blocks
      simp only [show k.val / 128 = 0 by omega, show f.val / 128 = 0 by omega, Nat.mod_eq_of_lt hk, Nat.mod_eq_of_lt hf]
      rfl
    rw [hx, hM, hA, EReal.coe_mul]
  rw [EReal.coe_add, dot, ← coe_sum, ← half_row b cb hb f]
  simp only [← e]
  pointwise [lu]

theorem lg_row (w b y : Row) (gw gb : Vec Ideal S1x256 .f32) (hw : IsTile w gw) (hb : IsTile b gb) (u : FVec Ideal S1x128 .f32) (hu : IsRow y u) :
    IsRow (fun f => norm (w f) (b f) (y f)) (lg gw gb u) := by
  intro f
  rw [← Scalars.norm_coe, ← hu f, ← half_row w gw hw f, ← half_row b gb hb f, ← named_eps]
  pointwise [lg]

theorem lact_row (y : Row) (g : FVec Ideal S1x128 .f32) (hg : IsRow y g) : IsRow (fun f => leaky (y f)) (lact g) := by
  intro f
  rw [← Scalars.leaky_coe, ← hg f]
  pointwise [lact]

theorem lres_row (a y : Row) (x g : FVec Ideal S1x128 .f32) (hx : IsRow a x) (hg : IsRow y g) : IsRow (fun f => max (a f + y f) 0) (lres x g) := by
  intro f
  rw [← Scalars.coe_max, EReal.coe_add, ← hx f, ← hg f]
  pointwise [lres]
  rfl

/-- A layer at the last node alone. -/
theorem gLast_row (P : Params) (i : Fin 4) (r : Row) (x : FVec Ideal S1x128 .f32) (hx : IsRow r x) (M : Vec Ideal S1x768x256 .f32)
    (hM : IsBlocks (P.A i) M) (cb gw gb : Vec Ideal S1x256 .f32) (hc : IsTile (P.c i) cb) (hw : IsTile (P.gw i) gw) (hb : IsTile (P.gb i) gb) :
    IsRow (P.gLast i r) (lg gw gb (lu x M cb)) :=
  lg_row _ _ _ gw gb hw hb _ (lu_row _ _ _ x hx M hM cb hc)

/-- The mean of the corrected sums. -/
theorem mean_row (P : Params) (acc : Vec Ideal S1x256 .f32)
    (hacc : ∀ l : Fin 256, acc (ix2 (0 : Fin 1) l) = ((∑ q ∈ Finset.range 50000, pair P.X4 (q : ℤ) l : ℝ) : EReal))
    (v w : FVec Ideal S1x128 .f32) (hv : IsRow P.v4 v) (hw : IsRow (P.X4 99999) w) : IsRow (fun f => P.total f * eps) (mean acc v w) := by
  intro f
  have hf := f.isLt
  have h0 := hacc (⟨f.val, by omega⟩ : Fin 256)
  have h1 := hacc (⟨f.val + 128, by omega⟩ : Fin 256)
  have e : mean acc v w (ix2 (0 : Fin 1) f) = ((acc (ix2 (0 : Fin 1) (⟨f.val, by omega⟩ : Fin 256)) + 0)
      + (acc (ix2 (0 : Fin 1) (⟨f.val + 128, by omega⟩ : Fin 256)) + (v (ix2 (0 : Fin 1) f) - w (ix2 (0 : Fin 1) f)))) * ((eps : ℝ) : EReal) := by
    rw [← named_eps]
    pointwise [mean]
    simp only [Nat.add_comm]
  rw [e, h0, h1, hv, hw, add_zero, ← EReal.coe_sub, ← EReal.coe_add, ← EReal.coe_add, ← EReal.coe_mul]
  refine congrArg (fun t : ℝ => ((t * eps : ℝ) : EReal)) ?_
  unfold Params.total
  have s := sum_pairs P.X4 f 50000
  have e2 : 2 * 50000 = 100000 := by norm_num
  rw [e2] at s
  rw [← s, ← add_assoc]
  refine congrArg (fun t : ℝ => t + (P.v4 f - P.X4 99999 f)) (congrArg₂ (fun a b : ℝ => a + b) ?_ ?_)
  · refine Finset.sum_congr rfl fun q _ => ?_
    unfold pair
    refine congrArg₂ P.X4 ?_ (Fin.ext ?_)
    · simp only [show f.val / 128 = 0 by omega]; norm_num
    · show f.val % 128 = f.val; omega
  · refine Finset.sum_congr rfl fun q _ => ?_
    unfold pair
    refine congrArg₂ P.X4 ?_ (Fin.ext ?_)
    · simp only [show (f.val + 128) / 128 = 1 by omega]; norm_num
    · show (f.val + 128) % 128 = f.val; omega

/-- The softplus as the kernel spells it. -/
def softplus (t : EReal) : EReal := max t 0 + Ideal.log1p (Ideal.exp (0 - max t (-t)))

/-- The finished row at a feature: the softplus of the linear layer at the mean. -/
theorem finish_at (r : Row) (p : FVec Ideal S1x128 .f32) (hp : IsRow r p) (w : Vec Ideal S128x128 .f32) (b : Vec Ideal S128 .f32) (f : Fin 128) :
    k0_pay1 (lin p w) b (ix2 (0 : Fin 1) (⟨f.val, by omega⟩ : Fin 256))
      = softplus ((∑ e : Fin 128, ((r e : ℝ) : EReal) * w (ix2 f e)) + b (ix1 f)) := by
  have hf := f.isLt
  have e : lin p w (ix2 (0 : Fin 1) f) = ∑ e : Fin 128, ((r e : ℝ) : EReal) * w (ix2 f e) := by
    simp only [← hp _]
    pointwise [lin]
  rw [← e]
  unfold softplus
  pointwise [k0_pay1]
  rfl

end Cert.KernelIdeal.Last

end
-- ==== Proof.Points.lean ====
/-
  What one grid point leaves in the output row and in the carried pairs, read back from the runs of the three cases: the first
  point, the points between, and the last point.
-/
module

public import proofs.«01_k».proof.Proof.Last
public import proofs.«01_k».proof.Proof.Gen.KernelIdeal.Frame
public import Idealize.ShloMosaic.Lib.Pipeline.Value
public import Idealize.ShloMosaic.Lib.Pipeline.ReadBack
public import Idealize.ShloMosaic.Lib.Tactic

@[expose] public section

set_option maxRecDepth 16384

noncomputable section

namespace Cert.KernelIdeal.Points

open Idealize.ShloMosaic Idealize.ShloMosaic.TcCoe Cert.KernelIdeal Cert.KernelIdeal.Gen Cert.KernelIdeal.Layer Cert.KernelIdeal.Last Cert.Net

/-! ## Rows, matrices and pairs of a layer -/

/-- Layer `i`'s matrix. -/
def mats (x : Vec Ideal S4x768x256 .f32) : Fin 4 → Vec Ideal S1x768x256 .f32
  | 0 => View.ld x (Rect.unit ![0, 0, 0] ![1, 768, 256] inb_S4x768x256_S1x768x256_0_0_0)
  | 1 => View.ld x (Rect.unit ![1, 0, 0] ![1, 768, 256] inb_S4x768x256_S1x768x256_1_0_0)
  | 2 => View.ld x (Rect.unit ![2, 0, 0] ![1, 768, 256] inb_S4x768x256_S1x768x256_2_0_0)
  | 3 => View.ld x (Rect.unit ![3, 0, 0] ![1, 768, 256] inb_S4x768x256_S1x768x256_3_0_0)

/-- Layer `i`'s row. -/
def rowOf (x : Vec Ideal S4x256 .f32) : Fin 4 → Vec Ideal S1x256 .f32
  | 0 => View.ld x (Rect.unit ![0, 0] ![1, 256] inb_S4x256_S1x256_0_0)
  | 1 => View.ld x (Rect.unit ![1, 0] ![1, 256] inb_S4x256_S1x256_1_0)
  | 2 => View.ld x (Rect.unit ![2, 0] ![1, 256] inb_S4x256_S1x256_2_0)
  | 3 => View.ld x (Rect.unit ![3, 0] ![1, 256] inb_S4x256_S1x256_3_0)

/-- Layer `i`'s carried pairs. -/
def halos (x : Vec Ideal S4x8x256 .f32) : Fin 4 → Vec Ideal S1x2x256 .f32
  | 0 => View.ld x (Rect.unit ![0, 0, 0] ![1, 2, 256] inb_S4x8x256_S1x2x256_0_0_0)
  | 1 => View.ld x (Rect.unit ![1, 0, 0] ![1, 2, 256] inb_S4x8x256_S1x2x256_1_0_0)
  | 2 => View.ld x (Rect.unit ![2, 0, 0] ![1, 2, 256] inb_S4x8x256_S1x2x256_2_0_0)
  | 3 => View.ld x (Rect.unit ![3, 0, 0] ![1, 2, 256] inb_S4x8x256_S1x2x256_3_0_0)

theorem mats_at (x : Vec Ideal S4x768x256 .f32) (i : Fin 4) (k : Fin 768) (l : Fin 256) : mats x i (ix3 (0 : Fin 1) k l) = x (ix3 i k l) := by
  match i with
  | 0 | 1 | 2 | 3 => exact congrArg x (funext fun a => Fin.ext (by fin_cases a <;> simp [Rect.emb, Rect.unit, ix3]))

theorem rowOf_at (x : Vec Ideal S4x256 .f32) (i : Fin 4) (l : Fin 256) : rowOf x i (ix2 (0 : Fin 1) l) = x (ix2 i l) := by
  match i with
  | 0 | 1 | 2 | 3 => exact congrArg x (funext fun a => Fin.ext (by fin_cases a <;> simp [Rect.emb, Rect.unit, ix2]))

/-! ## The layers of a block -/

section
variable (hs : Fin 4 → Vec Ideal S1x2x256 .f32) (x0 : Vec Ideal S20000x128 .f32) (x1 : Vec Ideal S4x768x256 .f32) (x2 x3 x4 : Vec Ideal S4x256 .f32)

/-- One layer of the block. -/
def lay (i : Fin 4) (x : FVec Ideal S10000x256 .f32) : FVec Ideal S10000x256 .f32 :=
  gT (rowOf x3 i) (rowOf x4 i) (uT (hs i) x (mats x1 i) (rowOf x2 i))

/-- The block after one, two, three layers and at the end. -/
def a1 : FVec Ideal S10000x256 .f32 := actT (lay hs x1 x2 x3 x4 0 (k0_pay9 x0))
def a2 : FVec Ideal S10000x256 .f32 := actT (lay hs x1 x2 x3 x4 1 (a1 hs x0 x1 x2 x3 x4))
def a3 : FVec Ideal S10000x256 .f32 := actT (lay hs x1 x2 x3 x4 2 (a2 hs x0 x1 x2 x3 x4))
def a4 : FVec Ideal S10000x256 .f32 := resT (k0_pay9 x0) (lay hs x1 x2 x3 x4 3 (a3 hs x0 x1 x2 x3 x4))

/-- One layer at the last node alone. -/
def llay (i : Fin 4) (r : FVec Ideal S1x128 .f32) : FVec Ideal S1x128 .f32 :=
  lg (rowOf x3 i) (rowOf x4 i) (lu r (mats x1 i) (rowOf x2 i))

/-- The last node's own chain. -/
def r4 : FVec Ideal S1x128 .f32 :=
  lres (lastRow (k0_pay9 x0)) (llay x1 x2 x3 x4 3 (lact (llay x1 x2 x3 x4 2 (lact (llay x1 x2 x3 x4 1 (lact (llay x1 x2 x3 x4 0 (lastRow (k0_pay9 x0)))))))))

end

theorem z2 : (![0, 0] : Fin 2 → Nat) = fun _ => 0 := funext fun a => by fin_cases a <;> rfl
theorem z3 : ∀ a : Fin 3, (![0, 0, 0] : Fin 3 → Nat) a = 0 := fun a => by fin_cases a <;> rfl
theorem z1 : (![0] : Fin 1 → Nat) = fun _ => 0 := funext fun a => by fin_cases a <;> rfl

/-- A load through the newest write's rectangle. -/
theorem ld_hit {sig : RefSig} {κ : Kind} {sp : Space} {s : Shape} {e : EltTy} {Val : EltTy → Type} (v : View sig κ sp s e) (f : v.ty.Contents Val)
    (r : Rect s) (w : r.shape.Idx → Val e) (L : List (View.Piece Val s e)) : View.ld (v.read Val (v.writes Val f (⟨r, w⟩ :: L))) r = w :=
  funext fun j => View.read_writes_cons_hit v f r w L j _ rfl

/-- A load apart from the newest write's rectangle. -/
theorem ld_miss {sig : RefSig} {κ : Kind} {sp : Space} {s : Shape} {e : EltTy} {Val : EltTy → Type} (v : View sig κ sp s e) (f : v.ty.Contents Val)
    (r r' : Rect s) (w : r'.shape.Idx → Val e) (L : List (View.Piece Val s e)) (h : LoadRect.disj r' r.toLoadRect = true) :
    View.ld (v.read Val (v.writes Val f (⟨r', w⟩ :: L))) r = View.ld (v.read Val (v.writes Val f L)) r :=
  funext fun j => View.read_writes_cons_miss v f ⟨r', w⟩ L _ (LoadRect.idx_not_mem_of_disj h j)

/-! ## The three cases -/

/-- The output row after the first point. -/
theorem out_A (c : Dev nD) (i : grid0.Coords) (m1 : Memref sig .tc .vmem S20000x128 .f32) (h1 : m1.IsWhole) (m2 : Memref sig .tc .vmem S4x768x256 .f32) (h2 : m2.IsWhole) (m3 : Memref sig .tc .vmem S4x256 .f32) (h3 : m3.IsWhole) (m4 : Memref sig .tc .vmem S4x256 .f32) (h4 : m4.IsWhole) (m5 : Memref sig .tc .vmem S4x256 .f32) (h5 : m5.IsWhole) (m6 : Memref sig .tc .vmem S128x128 .f32) (h6 : m6.IsWhole) (m7 : Memref sig .tc .vmem S128 .f32) (h7 : m7.IsWhole) (m8 : Memref sig .tc .vmem S1x256 .f32) (h8 : m8.IsWhole) (m9 : Memref sig .tc .vmem S4x8x256 .f32) (h9 : m9.IsWhole) (hc0 : cond0_0 i) (hc1 : ¬cond0_1 i) (x0 : Vec Ideal S20000x128 .f32) (x1 : Vec Ideal S4x768x256 .f32) (x2 x3 x4 : Vec Ideal S4x256 .f32) (x5 : Vec Ideal S128x128 .f32) (x6 : Vec Ideal S128 .f32) :
    out0_A_7 c i m1 h1 m2 h2 m3 h3 m4 h4 m5 h5 m6 h6 m7 h7 m8 h8 m9 h9 hc0 hc1 x0 x1 x2 x3 x4 x5 x6 = accT (k0_pay8 (F := Ideal)) (a4 (halos (k0_pay7 (F := Ideal))) x0 x1 x2 x3 x4) := by
  unfold out0_A_7
  rw [View.read_writes_junk_eq_canon]
  unfold kernelRun0_A
  dsimp only
  sl_unfold_words
  rw [View.canon_cons_unit_zero (S := S1x256) z2]
  simp only [View.readAt_eq_ld, h1.read_unread, h2.read_unread, h3.read_unread, h4.read_unread, h5.read_unread, h6.read_unread, h7.read_unread, h8.read_unread, h9.read_unread, View.ld_unit_zero (S := S20000x128) z2,
    View.ld_unit_zero (S := S1x256) z2, View.ld_unit_zero (S := S128x128) z2, View.ld_unit_zero (S := S128) z1]
  simp (disch := decide) only [↓ View.readCov_skip, View.readCov_fill (s := S4x8x256) _ _ _ _ _ z3, View.readCov_unit_zero (S := S1x256) _ z2, pay14_eq, pay16_eq, pay18_eq, pay20_eq, pay22_eq, pay23_eq, Last.pay3_eq, Last.pay5_eq, Last.pay6_eq]
  rfl

/-- The carried pairs after the first point. -/
theorem sout_A (c : Dev nD) (i : grid0.Coords) (m1 : Memref sig .tc .vmem S20000x128 .f32) (h1 : m1.IsWhole) (m2 : Memref sig .tc .vmem S4x768x256 .f32) (h2 : m2.IsWhole) (m3 : Memref sig .tc .vmem S4x256 .f32) (h3 : m3.IsWhole) (m4 : Memref sig .tc .vmem S4x256 .f32) (h4 : m4.IsWhole) (m5 : Memref sig .tc .vmem S4x256 .f32) (h5 : m5.IsWhole) (m6 : Memref sig .tc .vmem S128x128 .f32) (h6 : m6.IsWhole) (m7 : Memref sig .tc .vmem S128 .f32) (h7 : m7.IsWhole) (m8 : Memref sig .tc .vmem S1x256 .f32) (h8 : m8.IsWhole) (m9 : Memref sig .tc .vmem S4x8x256 .f32) (h9 : m9.IsWhole) (hc0 : cond0_0 i) (hc1 : ¬cond0_1 i) (x0 : Vec Ideal S20000x128 .f32) (x1 : Vec Ideal S4x768x256 .f32) (x2 x3 x4 : Vec Ideal S4x256 .f32) (x5 : Vec Ideal S128x128 .f32) (x6 : Vec Ideal S128 .f32) :
    halos (sout0_A_0 c i m1 h1 m2 h2 m3 h3 m4 h4 m5 h5 m6 h6 m7 h7 m8 h8 m9 h9 hc0 hc1 x0 x1 x2 x3 x4 x5 x6) 0 = tailT (k0_pay9 x0)
    ∧ halos (sout0_A_0 c i m1 h1 m2 h2 m3 h3 m4 h4 m5 h5 m6 h6 m7 h7 m8 h8 m9 h9 hc0 hc1 x0 x1 x2 x3 x4 x5 x6) 1 = tailT (a1 (halos (k0_pay7 (F := Ideal))) x0 x1 x2 x3 x4)
    ∧ halos (sout0_A_0 c i m1 h1 m2 h2 m3 h3 m4 h4 m5 h5 m6 h6 m7 h7 m8 h8 m9 h9 hc0 hc1 x0 x1 x2 x3 x4 x5 x6) 2 = tailT (a2 (halos (k0_pay7 (F := Ideal))) x0 x1 x2 x3 x4)
    ∧ halos (sout0_A_0 c i m1 h1 m2 h2 m3 h3 m4 h4 m5 h5 m6 h6 m7 h7 m8 h8 m9 h9 hc0 hc1 x0 x1 x2 x3 x4 x5 x6) 3 = tailT (a3 (halos (k0_pay7 (F := Ideal))) x0 x1 x2 x3 x4) := by
  unfold sout0_A_0
  unfold kernelRun0_A
  dsimp only
  sl_unfold_words
  simp only [View.readAt_eq_ld, h1.read_unread, h2.read_unread, h3.read_unread, h4.read_unread, h5.read_unread, h6.read_unread, h7.read_unread, h8.read_unread, h9.read_unread, View.ld_unit_zero (S := S20000x128) z2]
  simp (disch := decide) only [halos, ld_miss, ld_hit, ↓ View.readCov_skip, View.readCov_fill (s := S4x8x256) _ _ _ _ _ z3, pay10_eq, pay14_eq, pay15_eq, pay16_eq, pay18_eq, pay19_eq, pay20_eq, pay21_eq]
  exact ⟨trivial, rfl, rfl, rfl⟩

/-- The output row after a point between. -/
theorem out_B (c : Dev nD) (i : grid0.Coords) (m1 : Memref sig .tc .vmem S20000x128 .f32) (h1 : m1.IsWhole) (m2 : Memref sig .tc .vmem S4x768x256 .f32) (h2 : m2.IsWhole) (m3 : Memref sig .tc .vmem S4x256 .f32) (h3 : m3.IsWhole) (m4 : Memref sig .tc .vmem S4x256 .f32) (h4 : m4.IsWhole) (m5 : Memref sig .tc .vmem S4x256 .f32) (h5 : m5.IsWhole) (m6 : Memref sig .tc .vmem S128x128 .f32) (h6 : m6.IsWhole) (m7 : Memref sig .tc .vmem S128 .f32) (h7 : m7.IsWhole) (m8 : Memref sig .tc .vmem S1x256 .f32) (h8 : m8.IsWhole) (m9 : Memref sig .tc .vmem S4x8x256 .f32) (h9 : m9.IsWhole) (hc0 : ¬cond0_0 i) (hc1 : ¬cond0_1 i) (x0 : Vec Ideal S20000x128 .f32) (x1 : Vec Ideal S4x768x256 .f32) (x2 x3 x4 : Vec Ideal S4x256 .f32) (x5 : Vec Ideal S128x128 .f32) (x6 : Vec Ideal S128 .f32) (xo : Vec Ideal S1x256 .f32) (xs : Vec Ideal S4x8x256 .f32) :
    out0_B_7 c i m1 h1 m2 h2 m3 h3 m4 h4 m5 h5 m6 h6 m7 h7 m8 h8 m9 h9 hc0 hc1 x0 x1 x2 x3 x4 x5 x6 xo xs = accT xo (a4 (halos xs) x0 x1 x2 x3 x4) := by
  unfold out0_B_7
  rw [View.read_writes_junk_eq_canon]
  unfold kernelRun0_B
  dsimp only
  sl_unfold_words
  rw [View.canon_cons_unit_zero (S := S1x256) z2]
  simp only [View.readAt_eq_ld, h1.read_unread, h2.read_unread, h3.read_unread, h4.read_unread, h5.read_unread, h6.read_unread, h7.read_unread, h8.read_unread, h9.read_unread, View.ld_unit_zero (S := S20000x128) z2,
    View.ld_unit_zero (S := S1x256) z2, View.ld_unit_zero (S := S128x128) z2, View.ld_unit_zero (S := S128) z1]
  simp only [View.readCov_unit_zero (S := S1x256) _ z2, pay14_eq, pay16_eq, pay18_eq, pay20_eq, pay22_eq, pay23_eq, Last.pay3_eq, Last.pay5_eq, Last.pay6_eq]
  rfl

/-- The carried pairs after a point between. -/
theorem sout_B (c : Dev nD) (i : grid0.Coords) (m1 : Memref sig .tc .vmem S20000x128 .f32) (h1 : m1.IsWhole) (m2 : Memref sig .tc .vmem S4x768x256 .f32) (h2 : m2.IsWhole) (m3 : Memref sig .tc .vmem S4x256 .f32) (h3 : m3.IsWhole) (m4 : Memref sig .tc .vmem S4x256 .f32) (h4 : m4.IsWhole) (m5 : Memref sig .tc .vmem S4x256 .f32) (h5 : m5.IsWhole) (m6 : Memref sig .tc .vmem S128x128 .f32) (h6 : m6.IsWhole) (m7 : Memref sig .tc .vmem S128 .f32) (h7 : m7.IsWhole) (m8 : Memref sig .tc .vmem S1x256 .f32) (h8 : m8.IsWhole) (m9 : Memref sig .tc .vmem S4x8x256 .f32) (h9 : m9.IsWhole) (hc0 : ¬cond0_0 i) (hc1 : ¬cond0_1 i) (x0 : Vec Ideal S20000x128 .f32) (x1 : Vec Ideal S4x768x256 .f32) (x2 x3 x4 : Vec Ideal S4x256 .f32) (x5 : Vec Ideal S128x128 .f32) (x6 : Vec Ideal S128 .f32) (xo : Vec Ideal S1x256 .f32) (xs : Vec Ideal S4x8x256 .f32) :
    halos (sout0_B_0 c i m1 h1 m2 h2 m3 h3 m4 h4 m5 h5 m6 h6 m7 h7 m8 h8 m9 h9 hc0 hc1 x0 x1 x2 x3 x4 x5 x6 xo xs) 0 = tailT (k0_pay9 x0)
    ∧ halos (sout0_B_0 c i m1 h1 m2 h2 m3 h3 m4 h4 m5 h5 m6 h6 m7 h7 m8 h8 m9 h9 hc0 hc1 x0 x1 x2 x3 x4 x5 x6 xo xs) 1 = tailT (a1 (halos xs) x0 x1 x2 x3 x4)
    ∧ halos (sout0_B_0 c i m1 h1 m2 h2 m3 h3 m4 h4 m5 h5 m6 h6 m7 h7 m8 h8 m9 h9 hc0 hc1 x0 x1 x2 x3 x4 x5 x6 xo xs) 2 = tailT (a2 (halos xs) x0 x1 x2 x3 x4)
    ∧ halos (sout0_B_0 c i m1 h1 m2 h2 m3 h3 m4 h4 m5 h5 m6 h6 m7 h7 m8 h8 m9 h9 hc0 hc1 x0 x1 x2 x3 x4 x5 x6 xo xs) 3 = tailT (a3 (halos xs) x0 x1 x2 x3 x4) := by
  unfold sout0_B_0
  unfold kernelRun0_B
  dsimp only
  sl_unfold_words
  simp only [View.readAt_eq_ld, h1.read_unread, h2.read_unread, h3.read_unread, h4.read_unread, h5.read_unread, h6.read_unread, h7.read_unread, h8.read_unread, h9.read_unread, View.ld_unit_zero (S := S20000x128) z2]
  simp (disch := decide) only [halos, ld_miss, ld_hit, ↓ View.readCov_skip, pay10_eq, pay14_eq, pay15_eq, pay16_eq, pay18_eq, pay19_eq, pay20_eq, pay21_eq]
  exact ⟨trivial, rfl, rfl, rfl⟩

/-- The output row after the last point. -/
theorem out_C (c : Dev nD) (i : grid0.Coords) (m1 : Memref sig .tc .vmem S20000x128 .f32) (h1 : m1.IsWhole) (m2 : Memref sig .tc .vmem S4x768x256 .f32) (h2 : m2.IsWhole) (m3 : Memref sig .tc .vmem S4x256 .f32) (h3 : m3.IsWhole) (m4 : Memref sig .tc .vmem S4x256 .f32) (h4 : m4.IsWhole) (m5 : Memref sig .tc .vmem S4x256 .f32) (h5 : m5.IsWhole) (m6 : Memref sig .tc .vmem S128x128 .f32) (h6 : m6.IsWhole) (m7 : Memref sig .tc .vmem S128 .f32) (h7 : m7.IsWhole) (m8 : Memref sig .tc .vmem S1x256 .f32) (h8 : m8.IsWhole) (m9 : Memref sig .tc .vmem S4x8x256 .f32) (h9 : m9.IsWhole) (hc0 : ¬cond0_0 i) (hc1 : cond0_1 i) (x0 : Vec Ideal S20000x128 .f32) (x1 : Vec Ideal S4x768x256 .f32) (x2 x3 x4 : Vec Ideal S4x256 .f32) (x5 : Vec Ideal S128x128 .f32) (x6 : Vec Ideal S128 .f32) (xo : Vec Ideal S1x256 .f32) (xs : Vec Ideal S4x8x256 .f32) :
    out0_C_7 c i m1 h1 m2 h2 m3 h3 m4 h4 m5 h5 m6 h6 m7 h7 m8 h8 m9 h9 hc0 hc1 x0 x1 x2 x3 x4 x5 x6 xo xs = k0_pay1 (lin (mean (accT xo (a4 (halos xs) x0 x1 x2 x3 x4)) (r4 x0 x1 x2 x3 x4) (lastRow (a4 (halos xs) x0 x1 x2 x3 x4))) x5) x6 := by
  unfold out0_C_7
  rw [View.read_writes_junk_eq_canon]
  unfold kernelRun0_C
  dsimp only
  sl_unfold_words
  rw [View.canon_cons_unit_zero (S := S1x256) z2]
  simp only [View.readAt_eq_ld, h1.read_unread, h2.read_unread, h3.read_unread, h4.read_unread, h5.read_unread, h6.read_unread, h7.read_unread, h8.read_unread, h9.read_unread, View.ld_unit_zero (S := S20000x128) z2,
    View.ld_unit_zero (S := S1x256) z2, View.ld_unit_zero (S := S128x128) z2, View.ld_unit_zero (S := S128) z1]
  simp only [View.readCov_unit_zero (S := S1x256) _ z2, pay14_eq, pay16_eq, pay18_eq, pay20_eq, pay22_eq, pay23_eq, Last.pay3_eq, Last.pay5_eq, Last.pay6_eq]
  rfl

/-- The carried pairs after the last point. -/
theorem sout_C (c : Dev nD) (i : grid0.Coords) (m1 : Memref sig .tc .vmem S20000x128 .f32) (h1 : m1.IsWhole) (m2 : Memref sig .tc .vmem S4x768x256 .f32) (h2 : m2.IsWhole) (m3 : Memref sig .tc .vmem S4x256 .f32) (h3 : m3.IsWhole) (m4 : Memref sig .tc .vmem S4x256 .f32) (h4 : m4.IsWhole) (m5 : Memref sig .tc .vmem S4x256 .f32) (h5 : m5.IsWhole) (m6 : Memref sig .tc .vmem S128x128 .f32) (h6 : m6.IsWhole) (m7 : Memref sig .tc .vmem S128 .f32) (h7 : m7.IsWhole) (m8 : Memref sig .tc .vmem S1x256 .f32) (h8 : m8.IsWhole) (m9 : Memref sig .tc .vmem S4x8x256 .f32) (h9 : m9.IsWhole) (hc0 : ¬cond0_0 i) (hc1 : cond0_1 i) (x0 : Vec Ideal S20000x128 .f32) (x1 : Vec Ideal S4x768x256 .f32) (x2 x3 x4 : Vec Ideal S4x256 .f32) (x5 : Vec Ideal S128x128 .f32) (x6 : Vec Ideal S128 .f32) (xo : Vec Ideal S1x256 .f32) (xs : Vec Ideal S4x8x256 .f32) :
    halos (sout0_C_0 c i m1 h1 m2 h2 m3 h3 m4 h4 m5 h5 m6 h6 m7 h7 m8 h8 m9 h9 hc0 hc1 x0 x1 x2 x3 x4 x5 x6 xo xs) 0 = tailT (k0_pay9 x0)
    ∧ halos (sout0_C_0 c i m1 h1 m2 h2 m3 h3 m4 h4 m5 h5 m6 h6 m7 h7 m8 h8 m9 h9 hc0 hc1 x0 x1 x2 x3 x4 x5 x6 xo xs) 1 = tailT (a1 (halos xs) x0 x1 x2 x3 x4)
    ∧ halos (sout0_C_0 c i m1 h1 m2 h2 m3 h3 m4 h4 m5 h5 m6 h6 m7 h7 m8 h8 m9 h9 hc0 hc1 x0 x1 x2 x3 x4 x5 x6 xo xs) 2 = tailT (a2 (halos xs) x0 x1 x2 x3 x4)
    ∧ halos (sout0_C_0 c i m1 h1 m2 h2 m3 h3 m4 h4 m5 h5 m6 h6 m7 h7 m8 h8 m9 h9 hc0 hc1 x0 x1 x2 x3 x4 x5 x6 xo xs) 3 = tailT (a3 (halos xs) x0 x1 x2 x3 x4) := by
  unfold sout0_C_0
  unfold kernelRun0_C
  dsimp only
  sl_unfold_words
  simp only [View.readAt_eq_ld, h1.read_unread, h2.read_unread, h3.read_unread, h4.read_unread, h5.read_unread, h6.read_unread, h7.read_unread, h8.read_unread, h9.read_unread, View.ld_unit_zero (S := S20000x128) z2]
  simp (disch := decide) only [halos, ld_miss, ld_hit, ↓ View.readCov_skip, pay10_eq, pay14_eq, pay15_eq, pay16_eq, pay18_eq, pay19_eq, pay20_eq, pay21_eq]
  exact ⟨trivial, rfl, rfl, rfl⟩

end Cert.KernelIdeal.Points

end
-- ==== Proof.Pre.lean ====
/-
  What the precondition gives: the first six arguments hold reals. The reals are gathered in one `Net.Params`.
-/
module

public import Idealize.ShloMosaic.Lib.Pointwise
public import Idealize.ShloMosaic.Lib.ReduceAll
public import proofs.«01_k».proof.Pre_finite_args
public import proofs.«01_k».proof.Proof.Gen.Pre_finite_args
public import proofs.«01_k».proof.Proof.Consts
public import proofs.«01_k».proof.Proof.Net

@[expose] public section

set_option maxRecDepth 16384

noncomputable section

namespace Cert.Reals

open Idealize.ShloMosaic Cert.Net Cert.Pre_finite_args

/-- The parameters that the arguments' entries are, read as reals. -/
def params (a0 : FVec Ideal S1x100000x128 .f32) (a1 : FVec Ideal S4x4x128x128 .f32) (a2 a3 a4 a5 : FVec Ideal S4x128 .f32) : Params where
  W i k e f := (a1 (ix4 i k e f)).toReal
  cb i f := (a2 (ix2 i f)).toReal
  gw i f := (a3 (ix2 i f)).toReal
  gb i f := (a4 (ix2 i f)).toReal
  ms i f := (a5 (ix2 i f)).toReal
  x n f := (a0 (ix3 (0 : Fin 1) n f)).toReal

/-- The six arguments are the parameters' coercions. -/
structure Real (P : Params) (a0 : FVec Ideal S1x100000x128 .f32) (a1 : FVec Ideal S4x4x128x128 .f32) (a2 a3 a4 a5 : FVec Ideal S4x128 .f32) : Prop where
  x : ∀ (n : Fin 100000) (f : Fin 128), a0 (ix3 (0 : Fin 1) n f) = ((P.x n f : ℝ) : EReal)
  W : ∀ (i k : Fin 4) (e f : Fin 128), a1 (ix4 i k e f) = ((P.W i k e f : ℝ) : EReal)
  cb : ∀ (i : Fin 4) (f : Fin 128), a2 (ix2 i f) = ((P.cb i f : ℝ) : EReal)
  gw : ∀ (i : Fin 4) (f : Fin 128), a3 (ix2 i f) = ((P.gw i f : ℝ) : EReal)
  gb : ∀ (i : Fin 4) (f : Fin 128), a4 (ix2 i f) = ((P.gb i f : ℝ) : EReal)
  ms : ∀ (i : Fin 4) (f : Fin 128), a5 (ix2 i f) = ((P.ms i f : ℝ) : EReal)

/-- An extended real whose absolute value is below `⊤` is a real. -/
theorem coe_of_abs_lt (x : EReal) (h : Ideal.cmp .olt (max x (-x)) (Ideal.ofBits .f32 0x7F800000#32) = 1#1) : x = ((x.toReal : ℝ) : EReal) := by
  rw [Consts.ofBits_inf] at h
  induction x with
  | bot => exfalso; revert h; simp [Ideal.cmp]
  | top => exfalso; revert h; simp [Ideal.cmp]
  | coe r => rfl

/-- One conjunct of the precondition, read at an entry. -/
theorem entry {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : x i = (((x i).toReal : ℝ) : EReal) := by
  have : Subsingleton S_.Idx := ⟨fun a b => funext fun k => k.elim0⟩
  exact coe_of_abs_lt _ (Host.reduce_andi_all _ _ _ _ j e i)

/-- The precondition makes the six arguments the coercions of their reals. -/
theorem of_pre [Facts] (a0 : FVec Ideal S1x100000x128 .f32) (a1 : FVec Ideal S4x4x128x128 .f32) (a2 a3 a4 a5 : FVec Ideal S4x128 .f32)
    (a6 : FVec Ideal S128x128 .f32) (a7 : FVec Ideal S128 .f32) (h : fn (F := Ideal) a0 a1 a2 a3 a4 a5 a6 a7 = fun _ => 1#1) :
    Real (params a0 a1 a2 a3 a4 a5) a0 a1 a2 a3 a4 a5 := by
  have j : S_.Idx := fun k => k.elim0
  have e := congrFun h j
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun n f => entry a0 _ _ _ j e0 _, fun i k a b => entry a1 _ _ _ j e1 _, fun i f => entry a2 _ _ _ j e2 _, fun i f => entry a3 _ _ _ j e3 _,
    fun i f => entry a4 _ _ _ j e4 _, fun i f => entry a5 _ _ _ j e5 _⟩

end Cert.Reals

end
-- ==== Proof.Host.lean ====
/-
  What the host line before the kernel computes: the four layers' block matrices of taps and tiled rows, from the arguments.
-/
module

public import proofs.«01_k».proof.Proof.Points
public import proofs.«01_k».proof.Proof.Pre

@[expose] public section

set_option maxRecDepth 16384

noncomputable section

namespace Cert.KernelIdeal.Host

open Idealize.ShloMosaic Idealize.ShloMosaic.TcCoe Cert.KernelIdeal Cert.KernelIdeal.Gen Cert.KernelIdeal.Layer Cert.KernelIdeal.Points Cert.Net

/-! ## The operations -/

/-- A constant over the four layers' matrices. -/
def all (w : BitVec 32) : FVec Ideal S4x128x128 .f32 := broadcastInDim S4x128x128 ![] bcast_S_S4x128x128 (constant S_ .f32 w)

/-- One minus the mean's scale. -/
def keep (a5 : FVec Ideal S4x128 .f32) : FVec Ideal S4x128 .f32 :=
  subf (broadcastInDim S4x128 ![] bcast_S_S4x128 (constant S_ .f32 0x3F800000#32)) a5

/-- One minus the mean's scale, over the matrices' columns. -/
def keep3 (a5 : FVec Ideal S4x128 .f32) : FVec Ideal S4x128x128 .f32 :=
  broadcastInDim S4x128x128 ![0, 1, 2] bcast_S4x1x128_S4x128x128_0_1_2 (broadcastInDim S4x1x128 ![0, 2] bcast_S4x128_S4x1x128_0_2 (keep a5))

/-- The layers' matrices of one Chebyshev order. -/
def order0 (a1 : FVec Ideal S4x4x128x128 .f32) : FVec Ideal S4x128x128 .f32 :=
  shapeCast S4x128x128 (extractStridedSlice S4x1x128x128 ![0, 0, 0, 0] a1 slices_S4x4x128x128_S4x1x128x128_0_0_0_0) shapeCasts_S4x1x128x128_S4x128x128
@[inherit_doc order0] def order1 (a1 : FVec Ideal S4x4x128x128 .f32) : FVec Ideal S4x128x128 .f32 :=
  shapeCast S4x128x128 (extractStridedSlice S4x1x128x128 ![0, 1, 0, 0] a1 slices_S4x4x128x128_S4x1x128x128_0_1_0_0) shapeCasts_S4x1x128x128_S4x128x128
@[inherit_doc order0] def order2 (a1 : FVec Ideal S4x4x128x128 .f32) : FVec Ideal S4x128x128 .f32 :=
  shapeCast S4x128x128 (extractStridedSlice S4x1x128x128 ![0, 2, 0, 0] a1 slices_S4x4x128x128_S4x1x128x128_0_2_0_0) shapeCasts_S4x1x128x128_S4x128x128
@[inherit_doc order0] def order3 (a1 : FVec Ideal S4x4x128x128 .f32) : FVec Ideal S4x128x128 .f32 :=
  shapeCast S4x128x128 (extractStridedSlice S4x1x128x128 ![0, 3, 0, 0] a1 slices_S4x4x128x128_S4x1x128x128_0_3_0_0) shapeCasts_S4x1x128x128_S4x128x128

/-- The four taps. -/
def tap0 (a1 : FVec Ideal S4x4x128x128 .f32) (a5 : FVec Ideal S4x128 .f32) : FVec Ideal S4x128x128 .f32 :=
  mulf (subf (order0 a1) (order2 a1)) (keep3 a5)
@[inherit_doc tap0] def tap1 (a1 : FVec Ideal S4x4x128x128 .f32) (a5 : FVec Ideal S4x128 .f32) : FVec Ideal S4x128x128 .f32 :=
  mulf (subf (mulf (all 0x40400000#32) (order3 a1)) (order1 a1)) (keep3 a5)
@[inherit_doc tap0] def tap2 (a1 : FVec Ideal S4x4x128x128 .f32) (a5 : FVec Ideal S4x128 .f32) : FVec Ideal S4x128x128 .f32 :=
  mulf (mulf (all 0x40000000#32) (order2 a1)) (keep3 a5)
@[inherit_doc tap0] def tap3 (a1 : FVec Ideal S4x4x128x128 .f32) (a5 : FVec Ideal S4x128 .f32) : FVec Ideal S4x128x128 .f32 :=
  mulf (mulf (all 0xC0800000#32) (order3 a1)) (keep3 a5)

/-- Two matrices side by side. -/
def beside (a b : FVec Ideal S4x128x128 .f32) : FVec Ideal S4x128x256 .f32 :=
  concatenate S4x128x256 2 [⟨S4x128x128, a⟩, ⟨S4x128x128, b⟩] concatenates_S4x128x128_S4x128x128_S4x128x256_d2

/-- Six block rows from five matrices. -/
def grid (t0 t1 t2 t3 z : FVec Ideal S4x128x128 .f32) : FVec Ideal S4x768x256 .f32 :=
  concatenate S4x768x256 1 [⟨S4x128x256, beside t0 t1⟩, ⟨S4x128x256, beside z t0⟩, ⟨S4x128x256, beside t2 t3⟩, ⟨S4x128x256, beside t1 t2⟩,
    ⟨S4x128x256, beside z z⟩, ⟨S4x128x256, beside t3 z⟩] concatenates_S4x128x256_S4x128x256_S4x128x256_S4x128x256_S4x128x256_S4x128x256_S4x768x256_d1

/-- The block matrices of taps. -/
def packed (a1 : FVec Ideal S4x4x128x128 .f32) (a5 : FVec Ideal S4x128 .f32) : FVec Ideal S4x768x256 .f32 :=
  grid (tap0 a1 a5) (tap1 a1 a5) (tap2 a1 a5) (tap3 a1 a5) (all 0x00000000#32)

/-- A row twice. -/
def twice (a : FVec Ideal S4x128 .f32) : FVec Ideal S4x256 .f32 :=
  concatenate S4x256 1 [⟨S4x128, a⟩, ⟨S4x128, a⟩] concatenates_S4x128_S4x128_S4x256_d1

/-! ## Their values -/

theorem twice_at (a : FVec Ideal S4x128 .f32) (i : Fin 4) (l : Fin 256) : twice a (ix2 i l) = a (ix2 i (feat l)) := by
  have hl := l.isLt
  pointwise [twice]
  split
  · next h => exact congrArg a (congrArg (ix2 i) (Fin.ext (show l.val = l.val % 128 by omega)))
  · next h => exact congrArg a (congrArg (ix2 i) (Fin.ext (show l.val - 128 = l.val % 128 by omega)))

theorem twice_tile (b : Fin 4 → Row) (a : FVec Ideal S4x128 .f32) (ha : ∀ i f, a (ix2 i f) = ((b i f : ℝ) : EReal)) (i : Fin 4) :
    IsTile (b i) (rowOf (twice a) i) :=
  fun l => (rowOf_at _ i l).trans ((twice_at a i l).trans (ha i _))

theorem keep_at (a5 : FVec Ideal S4x128 .f32) (i : Fin 4) (f : Fin 128) (r : ℝ) (h : a5 (ix2 i f) = (r : EReal)) :
    keep a5 (ix2 i f) = ((1 - r : ℝ) : EReal) := by
  rw [EReal.coe_sub, ← h, ← Consts.ofBits_one]
  pointwise [keep]

theorem keep3_at (a5 : FVec Ideal S4x128 .f32) (i : Fin 4) (e f : Fin 128) : keep3 a5 (ix3 i e f) = keep a5 (ix2 i f) := by
  pointwise [keep3]

theorem order0_at (a1 : FVec Ideal S4x4x128x128 .f32) (i : Fin 4) (e f : Fin 128) : order0 a1 (ix3 i e f) = a1 (ix4 i (0 : Fin 4) e f) := by
  pointwise [order0]
theorem order1_at (a1 : FVec Ideal S4x4x128x128 .f32) (i : Fin 4) (e f : Fin 128) : order1 a1 (ix3 i e f) = a1 (ix4 i (1 : Fin 4) e f) := by
  pointwise [order1]
theorem order2_at (a1 : FVec Ideal S4x4x128x128 .f32) (i : Fin 4) (e f : Fin 128) : order2 a1 (ix3 i e f) = a1 (ix4 i (2 : Fin 4) e f) := by
  pointwise [order2]
theorem order3_at (a1 : FVec Ideal S4x4x128x128 .f32) (i : Fin 4) (e f : Fin 128) : order3 a1 (ix3 i e f) = a1 (ix4 i (3 : Fin 4) e f) := by
  pointwise [order3]

theorem all_at (w : BitVec 32) (i : Fin 4) (e f : Fin 128) : all w (ix3 i e f) = Ideal.ofBits .f32 w := by
  pointwise [all]

/-- The four taps are the tap matrices. -/
theorem taps_at (P : Params) (a1 : FVec Ideal S4x4x128x128 .f32) (a5 : FVec Ideal S4x128 .f32)
    (hW : ∀ i k e f, a1 (ix4 i k e f) = ((P.W i k e f : ℝ) : EReal)) (hm : ∀ i f, a5 (ix2 i f) = ((P.ms i f : ℝ) : EReal)) (i : Fin 4) (e f : Fin 128) :
    tap0 a1 a5 (ix3 i e f) = ((P.A i 0 e f : ℝ) : EReal) ∧ tap1 a1 a5 (ix3 i e f) = ((P.A i 1 e f : ℝ) : EReal) ∧
      tap2 a1 a5 (ix3 i e f) = ((P.A i 2 e f : ℝ) : EReal) ∧ tap3 a1 a5 (ix3 i e f) = ((P.A i 3 e f : ℝ) : EReal) := by
  have hk : keep3 a5 (ix3 i e f) = ((1 - P.ms i f : ℝ) : EReal) := (keep3_at a5 i e f).trans (keep_at a5 i f _ (hm i f))
  refine ⟨?_, ?_, ?_, ?_⟩
  · show ((order0 a1 (ix3 i e f) - order2 a1 (ix3 i e f) : EReal)) * keep3 a5 (ix3 i e f) = _
    rw [order0_at, order2_at, hW, hW, hk]
    rfl
  · show ((all 0x40400000#32 (ix3 i e f) * order3 a1 (ix3 i e f) - order1 a1 (ix3 i e f) : EReal)) * keep3 a5 (ix3 i e f) = _
    rw [order3_at, order1_at, hW, hW, hk, all_at, Consts.ofBits_three]
    rfl
  · show ((all 0x40000000#32 (ix3 i e f) * order2 a1 (ix3 i e f) : EReal)) * keep3 a5 (ix3 i e f) = _
    rw [order2_at, hW, hk, all_at, Consts.ofBits_two]
    rfl
  · show ((all 0xC0800000#32 (ix3 i e f) * order3 a1 (ix3 i e f) : EReal)) * keep3 a5 (ix3 i e f) = _
    rw [order3_at, hW, hk, all_at, Consts.ofBits_neg_four]
    rfl

/-- Two matrices side by side, at an index. -/
theorem beside_at (A B : Mat) (a b : FVec Ideal S4x128x128 .f32) (i : Fin 4) (ha : ∀ e f, a (ix3 i e f) = ((A e f : ℝ) : EReal))
    (hb : ∀ e f, b (ix3 i e f) = ((B e f : ℝ) : EReal)) (e : Fin 128) (l : Fin 256) :
    beside a b (ix3 i e l) = (((if l.val / 128 = 0 then A e (feat l) else B e (feat l)) : ℝ) : EReal) := by
  have hl := l.isLt
  pointwise [beside]
  split
  · next h =>
    rw [if_pos (by omega)]
    refine (ha _ _).trans (congrArg (fun t : Fin 128 => ((A e t : ℝ) : EReal)) (Fin.ext (show l.val = l.val % 128 by omega)))
  · next h =>
    refine (hb e ⟨l.val - 128, by omega⟩).trans ?_
    rw [if_neg (by omega)]
    exact congrArg (fun t : Fin 128 => ((B e t : ℝ) : EReal)) (Fin.ext (show l.val - 128 = l.val % 128 by omega))

/-- The six block rows are the block matrix of the four taps. -/
theorem grid_at (A : Fin 4 → Mat) (t0 t1 t2 t3 z : FVec Ideal S4x128x128 .f32) (i : Fin 4)
    (h0 : ∀ e f, t0 (ix3 i e f) = ((A 0 e f : ℝ) : EReal)) (h1 : ∀ e f, t1 (ix3 i e f) = ((A 1 e f : ℝ) : EReal))
    (h2 : ∀ e f, t2 (ix3 i e f) = ((A 2 e f : ℝ) : EReal)) (h3 : ∀ e f, t3 (ix3 i e f) = ((A 3 e f : ℝ) : EReal))
    (hz : ∀ e f, z (ix3 i e f) = ((0 : ℝ) : EReal)) (k : Fin 768) (l : Fin 256) :
    grid t0 t1 t2 t3 z (ix3 i k l) = ((blocks A k l : ℝ) : EReal) := by
  have hk := k.isLt
  have hl := l.isLt
  have hh : l.val / 128 = 0 ∨ l.val / 128 = 1 := by omega
  have key : ∀ (r : ℕ) (M N : Mat) (a b : FVec Ideal S4x128x128 .f32) (_ : ∀ e f, a (ix3 i e f) = ((M e f : ℝ) : EReal))
      (_ : ∀ e f, b (ix3 i e f) = ((N e f : ℝ) : EReal)) (_ : k.val / 128 = r) (_ : tapAt A r 0 = M) (_ : tapAt A r 1 = N) (e : Fin 128)
      (_ : e.val = k.val % 128), beside a b (ix3 i e l) = ((blocks A k l : ℝ) : EReal) := by
    intro r M N a b ha hb hr hM hN e he
    rw [beside_at M N a b i ha hb e l]
    unfold blocks
    have ee : e = ⟨k.val % 128, Nat.mod_lt _ (by omega)⟩ := Fin.ext he
    subst hM hN
    rcases hh with hh | hh
    · rw [if_pos hh, hr, hh, ← ee]
    · rw [if_neg (by omega), hr, hh, ← ee]
  have hZ : ∀ e f, z (ix3 i e f) = (((fun _ _ => 0 : Mat) e f : ℝ) : EReal) := hz
  pointwise [grid]
  repeat' split
  · exact key 0 _ _ _ _ h0 h1 (by omega) rfl rfl _ (show k.val = k.val % 128 by omega)
  · exact key 1 _ _ _ _ hZ h0 (by omega) rfl rfl _ (show k.val - 128 = k.val % 128 by omega)
  · exact key 2 _ _ _ _ h2 h3 (by omega) rfl rfl _ (show k.val - 256 = k.val % 128 by omega)
  · exact key 3 _ _ _ _ h1 h2 (by omega) rfl rfl _ (show k.val - 384 = k.val % 128 by omega)
  · exact key 4 _ _ _ _ hZ hZ (by omega) rfl rfl _ (show k.val - 512 = k.val % 128 by omega)
  · exact key 5 _ _ _ _ h3 hZ (by omega) rfl rfl _ (show k.val - 640 = k.val % 128 by omega)

/-- Layer `i`'s matrix is the block matrix of its taps. -/
theorem packed_blocks (P : Params) (a1 : FVec Ideal S4x4x128x128 .f32) (a5 : FVec Ideal S4x128 .f32)
    (hW : ∀ i k e f, a1 (ix4 i k e f) = ((P.W i k e f : ℝ) : EReal)) (hm : ∀ i f, a5 (ix2 i f) = ((P.ms i f : ℝ) : EReal)) (i : Fin 4) :
    IsBlocks (P.A i) (mats (packed a1 a5) i) := fun k l => by
  have h := taps_at P a1 a5 hW hm i
  exact (mats_at _ i k l).trans (grid_at (P.A i) _ _ _ _ _ i (fun e f => (h e f).1) (fun e f => (h e f).2.1) (fun e f => (h e f).2.2.1)
    (fun e f => (h e f).2.2.2) (fun e f => (all_at _ i e f).trans ((Ideal.ofBits_zero_f32).trans EReal.coe_zero.symm)) k l)

/-! ## The arrays when the kernel starts -/

variable (m : (ℓ : Loc nD τ sig) → Buf (Elt Ideal) ℓ) (c : Dev nD)

theorem V_bias : V m c main_call0_v43 = twice (mulf (m (c.tc.loc main_arg2)) (keep (m (c.tc.loc main_arg5)))) := by
  entry_read
  rfl

theorem V_weight : V m c main_call0_v44 = twice (m (c.tc.loc main_arg3)) := by
  entry_read
  rfl

theorem V_shift : V m c main_call0_v45 = twice (m (c.tc.loc main_arg4)) := by
  entry_read
  rfl

theorem V_nodes : V m c main_call0_v0 = shapeCast S100000x128 (m (c.tc.loc main_arg0)) shapeCasts_S1x100000x128_S100000x128 := by
  entry_read
  rfl

end Cert.KernelIdeal.Host

end
-- ==== Proof.HostTaps.lean ====
/-
  The array of block matrices when the kernel starts: the host line's six matrices, each read off its last writer.
-/
module

public import proofs.«01_k».proof.Proof.Host
public import Idealize.ShloMosaic.Lib.StableHlo.RunRead

@[expose] public section

set_option maxRecDepth 16384

noncomputable section

namespace Cert.KernelIdeal.Host

open Idealize.ShloMosaic Idealize.ShloMosaic.TcCoe Cert.KernelIdeal Cert.KernelIdeal.Gen

variable (m : (ℓ : Loc nD τ sig) → Buf (Elt Ideal) ℓ) (c : Dev nD)

set_option maxHeartbeats 1600000 in
/-- The kernel's second operand holds the block matrices of taps. -/
theorem V_taps : V m c main_call0_v39 = packed (m (c.tc.loc main_arg1)) (m (c.tc.loc main_arg5)) := by
  change StableHlo.after [hostOps0].flatten (fun b => m (c, b)) (Proc.tc.devRef main_call0_v39) = _
  simp only [List.flatten_cons, List.flatten_nil, List.append_nil]
  after_reads_simp
  rfl

end Cert.KernelIdeal.Host

end
-- ==== Proof.Block.lean ====
/-
  One grid point in the network's terms: from the node pairs of its block and the carried pairs, the pairs of every layer, the
  pairs it carries on, and the sums it adds.
-/
module

public import proofs.«01_k».proof.Proof.Points

@[expose] public section

set_option maxRecDepth 16384

noncomputable section

namespace Cert.KernelIdeal.Block

open Idealize.ShloMosaic Idealize.ShloMosaic.TcCoe Cert.KernelIdeal Cert.KernelIdeal.Gen Cert.KernelIdeal.Layer Cert.KernelIdeal.Last Cert.KernelIdeal.Points Cert.Net

/-- The four parameter arrays hold the layers' block matrices, biases, weights and shifts. -/
structure Holds (P : Params) (x1 : Vec Ideal S4x768x256 .f32) (x2 x3 x4 : Vec Ideal S4x256 .f32) : Prop where
  mat : ∀ i, IsBlocks (P.A i) (mats x1 i)
  bias : ∀ i, IsTile (P.c i) (rowOf x2 i)
  weight : ∀ i, IsTile (P.gw i) (rowOf x3 i)
  shift : ∀ i, IsTile (P.gb i) (rowOf x4 i)

/-- The carried pairs are the two pairs before pair `q` of the input and of the first three layers. -/
structure Carried (P : Params) (q : ℤ) (hs : Fin 4 → Vec Ideal S1x2x256 .f32) : Prop where
  h0 : IsHalo P.x0 q (hs 0)
  h1 : IsHalo P.X1 q (hs 1)
  h2 : IsHalo P.X2 q (hs 2)
  h3 : IsHalo P.X3 q (hs 3)

section
variable (P : Params) (q : ℤ) (hq : 0 ≤ q) (hs : Fin 4 → Vec Ideal S1x2x256 .f32) (x0 : Vec Ideal S20000x128 .f32) (x1 : Vec Ideal S4x768x256 .f32)
  (x2 x3 x4 : Vec Ideal S4x256 .f32) (hx : IsPairs P.x0 q (k0_pay9 x0)) (H : Holds P x1 x2 x3 x4) (C : Carried P q hs)
include hq hx H C

theorem pairs1 : IsPairs P.X1 q (a1 hs x0 x1 x2 x3 x4) :=
  layer_pairs P 0 P.x0 q hq _ _ C.h0 hx _ (H.mat 0) _ _ _ (H.bias 0) (H.weight 0) (H.shift 0)

theorem pairs2 : IsPairs P.X2 q (a2 hs x0 x1 x2 x3 x4) :=
  layer_pairs P 1 P.X1 q hq _ _ C.h1 (pairs1 P q hq hs x0 x1 x2 x3 x4 hx H C) _ (H.mat 1) _ _ _ (H.bias 1) (H.weight 1) (H.shift 1)

theorem pairs3 : IsPairs P.X3 q (a3 hs x0 x1 x2 x3 x4) :=
  layer_pairs P 2 P.X2 q hq _ _ C.h2 (pairs2 P q hq hs x0 x1 x2 x3 x4 hx H C) _ (H.mat 2) _ _ _ (H.bias 2) (H.weight 2) (H.shift 2)

/-- The block ends holding the pairs of the last layer. -/
theorem pairs4 : IsPairs P.X4 q (a4 hs x0 x1 x2 x3 x4) :=
  last_pairs P q _ _ _ C.h3 hx (pairs3 P q hq hs x0 x1 x2 x3 x4 hx H C) _ (H.mat 3) _ _ _ (H.bias 3) (H.weight 3) (H.shift 3)

/-- What the point carries on. -/
theorem carried (hs' : Fin 4 → Vec Ideal S1x2x256 .f32)
    (h : hs' 0 = tailT (k0_pay9 x0) ∧ hs' 1 = tailT (a1 hs x0 x1 x2 x3 x4) ∧ hs' 2 = tailT (a2 hs x0 x1 x2 x3 x4) ∧ hs' 3 = tailT (a3 hs x0 x1 x2 x3 x4)) :
    Carried P (q + 10000) hs' where
  h0 := h.1 ▸ tail_halo _ _ _ hx
  h1 := h.2.1 ▸ tail_halo _ _ _ (pairs1 P q hq hs x0 x1 x2 x3 x4 hx H C)
  h2 := h.2.2.1 ▸ tail_halo _ _ _ (pairs2 P q hq hs x0 x1 x2 x3 x4 hx H C)
  h3 := h.2.2.2 ▸ tail_halo _ _ _ (pairs3 P q hq hs x0 x1 x2 x3 x4 hx H C)

/-- The last node's own chain, at the last block. -/
theorem chain_row (h4 : q = 40000) : IsRow P.v4 (r4 x0 x1 x2 x3 x4) := by
  have b : IsRow (P.x0 99999) (lastRow (k0_pay9 x0)) := last_row _ q h4 _ hx
  have g : ∀ (i : Fin 4) (r : Row) (x : FVec Ideal S1x128 .f32), IsRow r x → IsRow (P.gLast i r) (llay x1 x2 x3 x4 i x) :=
    fun i r x hr => gLast_row P i r x hr _ (H.mat i) _ _ _ (H.bias i) (H.weight i) (H.shift i)
  exact lres_row _ _ _ _ b (g 3 _ _ (lact_row _ _ (g 2 _ _ (lact_row _ _ (g 1 _ _ (lact_row _ _ (g 0 _ _ b)))))))

/-- The last node's value in the block's own layers. -/
theorem last4_row (h4 : q = 40000) : IsRow (P.X4 99999) (lastRow (a4 hs x0 x1 x2 x3 x4)) :=
  last_row _ q h4 _ (pairs4 P q hq hs x0 x1 x2 x3 x4 hx H C)

/-- The row of sums after `n + 1` blocks, from the row after `n`. -/
theorem sums (n : ℕ) (hn : q = 10000 * (n : ℤ)) (o : Vec Ideal S1x256 .f32)
    (ho : ∀ l : Fin 256, o (ix2 (0 : Fin 1) l) = ((∑ p ∈ Finset.range (10000 * n), pair P.X4 (p : ℤ) l : ℝ) : EReal)) (l : Fin 256) :
    accT o (a4 hs x0 x1 x2 x3 x4) (ix2 (0 : Fin 1) l) = ((∑ p ∈ Finset.range (10000 * (n + 1)), pair P.X4 (p : ℤ) l : ℝ) : EReal) := by
  rw [acc_at P.X4 q o _ (pairs4 P q hq hs x0 x1 x2 x3 x4 hx H C) l _ (ho l), mul_add, mul_one, Finset.sum_range_add]
  refine congrArg (fun t : ℝ => ((_ + t : ℝ) : EReal)) (Finset.sum_congr rfl fun p _ => ?_)
  rw [hn]
  push_cast
  rfl

end

/-- Before the first point the carried pairs are zero, as are all values below node zero. -/
theorem carried_zero (P : Params) : Carried P 0 (halos (k0_pay7 (F := Ideal))) := by
  have z : ∀ (i : Fin 4) (r : Fin 2) (l : Fin 256), halos (k0_pay7 (F := Ideal)) i (ix3 (0 : Fin 1) r l) = ((0 : ℝ) : EReal) := by
    intro i r l
    have e : k0_pay7 (F := Ideal) = fun _ => Ideal.ofBits .f32 0x00000000#32 := by
      unfold k0_pay7
      dsimp only
      rw [shapeCast_self]
      rfl
    rw [e, EReal.coe_zero]
    match i with
    | 0 | 1 | 2 | 3 => exact Ideal.ofBits_zero_f32
  have y : ∀ (X : Nodes) (_ : ∀ n f, n < 0 → X n f = 0) (i : Fin 4), IsHalo X 0 (halos (k0_pay7 (F := Ideal)) i) := by
    intro X hX i r l
    have hl := l.isLt
    have hr := r.isLt
    rw [z, pair, hX _ _ (by omega)]
  exact ⟨y _ P.x0_neg 0, y _ (P.step_neg 0 _) 1, y _ (P.step_neg 1 _) 2, y _ (P.step_neg 2 _) 3⟩

/-- The row of sums starts at zero. -/
theorem sums_zero (l : Fin 256) : k0_pay8 (F := Ideal) (ix2 (0 : Fin 1) l) = ((0 : ℝ) : EReal) :=
  Ideal.ofBits_zero_f32.trans EReal.coe_zero.symm

end Cert.KernelIdeal.Block

end
-- ==== Proof.Blocks.lean ====
/-
  What the kernel's windows hold at a grid point: the parameter arrays whole, and the point's 20000 nodes of the input.
-/
module

public import proofs.«01_k».proof.Proof.HostTaps
public import proofs.«01_k».proof.Proof.Block
public import Idealize.ShloMosaic.Lib.Pipeline.ValueKit

@[expose] public section

set_option maxRecDepth 16384

noncomputable section

namespace Cert.KernelIdeal.Blocks

open Idealize.ShloMosaic Idealize.ShloMosaic.TcCoe Cert.KernelIdeal Cert.KernelIdeal.Gen Cert.KernelIdeal.Layer Cert.KernelIdeal.Points
  Cert.KernelIdeal.Host Cert.KernelIdeal.Block Cert.Net

variable (m : (ℓ : Loc nD τ sig) → Buf (Elt Ideal) ℓ) (c : Dev nD)

/-! ## The parameter arrays, whole -/

theorem whole1 (t : Fin cfg0.N) : iblk m c 1 t = V m c main_call0_v39 := by
  have hz : (fun a => win0_1.index t a * main_call0_v39.ty.shape.size a) = fun _ => 0 := funext fun a => by fin_cases a <;> exact Nat.zero_mul _
  exact Memref.read_access_unit_zero (Elt Ideal) main_call0_v39 hz (fun a => by rw [congrFun hz a]; simp) _

theorem whole2 (t : Fin cfg0.N) : iblk m c 2 t = V m c main_call0_v43 := by
  have hz : (fun a => win0_2.index t a * main_call0_v43.ty.shape.size a) = fun _ => 0 := funext fun a => by fin_cases a <;> exact Nat.zero_mul _
  exact Memref.read_access_unit_zero (Elt Ideal) main_call0_v43 hz (fun a => by rw [congrFun hz a]; simp) _

theorem whole3 (t : Fin cfg0.N) : iblk m c 3 t = V m c main_call0_v44 := by
  have hz : (fun a => win0_3.index t a * main_call0_v44.ty.shape.size a) = fun _ => 0 := funext fun a => by fin_cases a <;> exact Nat.zero_mul _
  exact Memref.read_access_unit_zero (Elt Ideal) main_call0_v44 hz (fun a => by rw [congrFun hz a]; simp) _

theorem whole4 (t : Fin cfg0.N) : iblk m c 4 t = V m c main_call0_v45 := by
  have hz : (fun a => win0_4.index t a * main_call0_v45.ty.shape.size a) = fun _ => 0 := funext fun a => by fin_cases a <;> exact Nat.zero_mul _
  exact Memref.read_access_unit_zero (Elt Ideal) main_call0_v45 hz (fun a => by rw [congrFun hz a]; simp) _

theorem whole5 (t : Fin cfg0.N) : iblk m c 5 t = m (c.tc.loc main_arg6) := by
  have hz : (fun a => win0_5.index t a * main_arg6.ty.shape.size a) = fun _ => 0 := funext fun a => by fin_cases a <;> exact Nat.zero_mul _
  exact (Memref.read_access_unit_zero (Elt Ideal) main_arg6 hz (fun a => by rw [congrFun hz a]; simp) _).trans (V_main_arg6 m c)

theorem whole6 (t : Fin cfg0.N) : iblk m c 6 t = m (c.tc.loc main_arg7) := by
  have hz : (fun a => win0_6.index t a * main_arg7.ty.shape.size a) = fun _ => 0 := funext fun a => by fin_cases a <;> exact Nat.zero_mul _
  exact (Memref.read_access_unit_zero (Elt Ideal) main_arg7 hz (fun a => by rw [congrFun hz a]; simp) _).trans (V_main_arg7 m c)

/-! ## The point's nodes -/

/-- The input window is at block `t`. -/
theorem idx0 : ∀ t : Fin cfg0.N, win0_0.index t = ![t.val, 0] := (by decide +kernel : ∀ t : Fin grid0.N, win0_0.index t = ![t.val, 0])

/-- The nodes without their leading axis of one. -/
theorem drop_at (x : FVec Ideal S1x100000x128 .f32) (n : Fin 100000) (f : Fin 128) :
    shapeCast S100000x128 x shapeCasts_S1x100000x128_S100000x128 (ix2 n f) = x (ix3 (0 : Fin 1) n f) := by
  pointwise

/-- Row `r` of the point's block is row `20000 t + r` of the nodes. -/
theorem block_at (t : Fin cfg0.N) (r : Fin 20000) (f : Fin 128) (n : Fin 100000) (hn : n.val = 20000 * t.val + r.val) :
    (iblk m c 0 t : Vec Ideal S20000x128 .f32) (ix2 r f) = V m c main_call0_v0 (ix2 n f) := by
  show V m c main_call0_v0 ((win0_0.rect t).emb (ix2 r f)) = _
  refine congrArg (V m c main_call0_v0) (funext fun a => Fin.ext ?_)
  have e : win0_0.index t = ![t.val, 0] := idx0 t
  match a with
  | 0 =>
    show win0_0.index t 0 * 20000 + 1 * r.val = n.val
    rw [e]
    show t.val * 20000 + 1 * r.val = n.val
    omega
  | 1 =>
    show win0_0.index t 1 * 128 + 1 * f.val = f.val
    rw [e]
    show 0 * 128 + 1 * f.val = f.val
    omega

/-- Row `r` of the point's block is node `20000 t + r`. -/
theorem nodes_at (t : Fin cfg0.N) (r : Fin 20000) (f : Fin 128) (n : Fin 100000) (hn : n.val = 20000 * t.val + r.val) :
    (iblk m c 0 t : Vec Ideal S20000x128 .f32) (ix2 r f) = m (c.tc.loc main_arg0) (ix3 (0 : Fin 1) n f) := by
  rw [block_at m c t r f n hn, V_nodes, drop_at]

/-- A block of 20000 nodes as 10000 pairs. -/
theorem pairs_at (x : Vec Ideal S20000x128 .f32) (p : Fin 10000) (l : Fin 256) :
    k0_pay9 x (ix2 p l) = x (ix2 (⟨p.val * 2 + l.val / 128, by omega⟩ : Fin 20000) (feat l)) := by
  have hl := l.isLt
  have hp := p.isLt
  pointwise [k0_pay9]

/-- The bias times one minus the mean's scale. -/
theorem bias_at (a2 a5 : FVec Ideal S4x128 .f32) (i : Fin 4) (f : Fin 128) (r s : ℝ) (h2 : a2 (ix2 i f) = (r : EReal)) (h5 : a5 (ix2 i f) = (s : EReal)) :
    mulf a2 (keep a5) (ix2 i f) = ((r * (1 - s) : ℝ) : EReal) := by
  show a2 (ix2 i f) * keep a5 (ix2 i f) = _
  rw [keep_at _ i f _ h5, h2, EReal.coe_mul]

/-! ## In the network's terms -/

/-- The arguments are the parameters' coercions. -/
abbrev Args (P : Params) : Prop :=
  Reals.Real P (m (c.tc.loc main_arg0)) (m (c.tc.loc main_arg1)) (m (c.tc.loc main_arg2)) (m (c.tc.loc main_arg3)) (m (c.tc.loc main_arg4))
    (m (c.tc.loc main_arg5))

variable (P : Params) (hP : Args m c P)
include hP

/-- The point's block holds the input's pairs from pair `10000 t` on. -/
theorem block_pairs (t : Fin cfg0.N) : IsPairs P.x0 (10000 * (t.val : ℤ)) (k0_pay9 (iblk m c 0 t)) := by
  intro p l
  have hl := l.isLt
  have hp := p.isLt
  have ht : t.val < 5 := by have := t.isLt; have hN : cfg0.N = 5 := N_0; omega
  rw [pairs_at, nodes_at m c t _ _ ⟨20000 * t.val + (p.val * 2 + l.val / 128), by omega⟩ rfl]
  refine (hP.x _ _).trans ?_
  unfold pair Params.x0
  rw [dif_pos (by omega)]
  refine congrArg (fun n : Fin 100000 => ((P.x n (feat l) : ℝ) : EReal)) (Fin.ext ?_)
  show 20000 * t.val + (p.val * 2 + l.val / 128) = (2 * (10000 * (t.val : ℤ) + (p.val : ℤ)) + ((l.val / 128 : ℕ) : ℤ)).toNat
  omega

/-- The parameter windows hold the layers' parameters. -/
theorem holds (t : Fin cfg0.N) : Holds P (iblk m c 1 t) (iblk m c 2 t) (iblk m c 3 t) (iblk m c 4 t) where
  mat i := by
    rw [whole1, V_taps]
    exact packed_blocks P _ _ hP.W hP.ms i
  bias i := by
    rw [whole2, V_bias]
    exact twice_tile P.c _ (fun i f => bias_at _ _ i f _ _ (hP.cb i f) (hP.ms i f)) i
  weight i := by
    rw [whole3, V_weight]
    exact twice_tile P.gw _ hP.gw i
  shift i := by
    rw [whole4, V_shift]
    exact twice_tile P.gb _ hP.gb i

end Cert.KernelIdeal.Blocks

end
-- ==== Proof.State.lean ====
/-
  What the kernel holds after each grid point, by induction on the point, and so what it ends with.
-/
module

public import proofs.«01_k».proof.Proof.Blocks

@[expose] public section

set_option maxRecDepth 16384

noncomputable section

namespace Cert.KernelIdeal.State

open Idealize.ShloMosaic Idealize.ShloMosaic.TcCoe Cert.KernelIdeal Cert.KernelIdeal.Gen Cert.KernelIdeal.Layer Cert.KernelIdeal.Last
  Cert.KernelIdeal.Points Cert.KernelIdeal.Block Cert.KernelIdeal.Blocks Cert.Net

variable (m : (ℓ : Loc nD τ sig) → Buf (Elt Ideal) ℓ) (c : Dev nD) (P : Params) (hP : Args m c P)

/-! ## The three cases, at a point -/

theorem row_first (t : Fin cfg0.N) (h0 : t.val % 5 = 0) (h1 : ¬t.val % 5 = 4) :
    (outsAt0 m c t.val t.isLt).1 = accT (k0_pay8 (F := Ideal)) (a4 (halos (k0_pay7 (F := Ideal))) (iblk m c 0 t) (iblk m c 1 t) (iblk m c 2 t) (iblk m c 3 t) (iblk m c 4 t)) := by
  have e := congrArg Prod.fst (outsAt0_A m c t h0 h1)
  dsimp only at e
  rw [e, out_A]

theorem carry_first (t : Fin cfg0.N) (h0 : t.val % 5 = 0) (h1 : ¬t.val % 5 = 4) :
    halos (outsAt0 m c t.val t.isLt).2 0 = tailT (k0_pay9 (iblk m c 0 t))
      ∧ halos (outsAt0 m c t.val t.isLt).2 1 = tailT (a1 (halos (k0_pay7 (F := Ideal))) (iblk m c 0 t) (iblk m c 1 t) (iblk m c 2 t) (iblk m c 3 t) (iblk m c 4 t))
      ∧ halos (outsAt0 m c t.val t.isLt).2 2 = tailT (a2 (halos (k0_pay7 (F := Ideal))) (iblk m c 0 t) (iblk m c 1 t) (iblk m c 2 t) (iblk m c 3 t) (iblk m c 4 t))
      ∧ halos (outsAt0 m c t.val t.isLt).2 3 = tailT (a3 (halos (k0_pay7 (F := Ideal))) (iblk m c 0 t) (iblk m c 1 t) (iblk m c 2 t) (iblk m c 3 t) (iblk m c 4 t)) := by
  have e := congrArg Prod.snd (outsAt0_A m c t h0 h1)
  dsimp only at e
  rw [e]
  exact sout_A ..

theorem row_next (t : Fin cfg0.N) (h0 : ¬t.val % 5 = 0) (h1 : ¬t.val % 5 = 4) :
    (outsAt0 m c t.val t.isLt).1 = accT (outsAt0 m c (t.val - 1) (Nat.lt_of_le_of_lt (Nat.sub_le _ _) t.isLt)).1 (a4 (halos (outsAt0 m c (t.val - 1) (Nat.lt_of_le_of_lt (Nat.sub_le _ _) t.isLt)).2) (iblk m c 0 t) (iblk m c 1 t) (iblk m c 2 t) (iblk m c 3 t) (iblk m c 4 t)) := by
  have e := congrArg Prod.fst (outsAt0_B m c t h0 h1)
  dsimp only at e
  rw [e, out_B]

theorem carry_next (t : Fin cfg0.N) (h0 : ¬t.val % 5 = 0) (h1 : ¬t.val % 5 = 4) :
    halos (outsAt0 m c t.val t.isLt).2 0 = tailT (k0_pay9 (iblk m c 0 t))
      ∧ halos (outsAt0 m c t.val t.isLt).2 1 = tailT (a1 (halos (outsAt0 m c (t.val - 1) (Nat.lt_of_le_of_lt (Nat.sub_le _ _) t.isLt)).2) (iblk m c 0 t) (iblk m c 1 t) (iblk m c 2 t) (iblk m c 3 t) (iblk m c 4 t))
      ∧ halos (outsAt0 m c t.val t.isLt).2 2 = tailT (a2 (halos (outsAt0 m c (t.val - 1) (Nat.lt_of_le_of_lt (Nat.sub_le _ _) t.isLt)).2) (iblk m c 0 t) (iblk m c 1 t) (iblk m c 2 t) (iblk m c 3 t) (iblk m c 4 t))
      ∧ halos (outsAt0 m c t.val t.isLt).2 3 = tailT (a3 (halos (outsAt0 m c (t.val - 1) (Nat.lt_of_le_of_lt (Nat.sub_le _ _) t.isLt)).2) (iblk m c 0 t) (iblk m c 1 t) (iblk m c 2 t) (iblk m c 3 t) (iblk m c 4 t)) := by
  have e := congrArg Prod.snd (outsAt0_B m c t h0 h1)
  dsimp only at e
  rw [e]
  exact sout_B ..

theorem row_last (t : Fin cfg0.N) (h0 : ¬t.val % 5 = 0) (h1 : t.val % 5 = 4) :
    (outsAt0 m c t.val t.isLt).1 = k0_pay1 (lin (mean (accT (outsAt0 m c (t.val - 1) (Nat.lt_of_le_of_lt (Nat.sub_le _ _) t.isLt)).1 (a4 (halos (outsAt0 m c (t.val - 1) (Nat.lt_of_le_of_lt (Nat.sub_le _ _) t.isLt)).2) (iblk m c 0 t) (iblk m c 1 t) (iblk m c 2 t) (iblk m c 3 t) (iblk m c 4 t)))
      (r4 (iblk m c 0 t) (iblk m c 1 t) (iblk m c 2 t) (iblk m c 3 t) (iblk m c 4 t)) (lastRow (a4 (halos (outsAt0 m c (t.val - 1) (Nat.lt_of_le_of_lt (Nat.sub_le _ _) t.isLt)).2) (iblk m c 0 t) (iblk m c 1 t) (iblk m c 2 t) (iblk m c 3 t) (iblk m c 4 t)))) (iblk m c 5 t)) (iblk m c 6 t) := by
  have e := congrArg Prod.fst (outsAt0_C m c t h0 h1)
  dsimp only at e
  rw [e, out_C]

/-! ## By induction -/

/-- After `n + 1` blocks: the carried pairs are the two pairs before pair `10000 (n + 1)`, the output row the sums so far. -/
structure After (P : Params) (n : ℕ) (s : Vec Ideal S1x256 .f32 × Vec Ideal S4x8x256 .f32) : Prop where
  carried : Carried P (10000 * (n : ℤ) + 10000) (halos s.2)
  sums : ∀ l : Fin 256, s.1 (ix2 (0 : Fin 1) l) = ((∑ p ∈ Finset.range (10000 * (n + 1)), pair P.X4 (p : ℤ) l : ℝ) : EReal)

section
include hP

/-- The first point. -/
theorem after_first (t : Fin cfg0.N) (h0 : t.val = 0) : After P t.val (outsAt0 m c t.val t.isLt) := by
  have hx := block_pairs m c P hP t
  have H := holds m c P hP t
  have C : Carried P (10000 * (t.val : ℤ)) (halos (k0_pay7 (F := Ideal))) := by
    rw [h0]
    exact carried_zero P
  refine ⟨carried P _ (by omega) _ _ _ _ _ _ hx H C _ (carry_first m c t (by omega) (by omega)), fun l => ?_⟩
  rw [row_first m c t (by omega) (by omega)]
  refine sums P _ (by omega) _ _ _ _ _ _ hx H C t.val rfl _ (fun l => ?_) l
  rw [sums_zero, h0]
  rfl

/-- A point between. -/
theorem after_next (t : Fin cfg0.N) (h0 : ¬t.val % 5 = 0) (h1 : ¬t.val % 5 = 4) (n : ℕ) (hn : t.val = n + 1)
    (ih : After P n (outsAt0 m c (t.val - 1) (Nat.lt_of_le_of_lt (Nat.sub_le _ _) t.isLt))) : After P t.val (outsAt0 m c t.val t.isLt) := by
  have hx := block_pairs m c P hP t
  have H := holds m c P hP t
  have C : Carried P (10000 * (t.val : ℤ)) (halos (outsAt0 m c (t.val - 1) (Nat.lt_of_le_of_lt (Nat.sub_le _ _) t.isLt)).2) := by
    have e : 10000 * (t.val : ℤ) = 10000 * (n : ℤ) + 10000 := by omega
    rw [e]
    exact ih.carried
  refine ⟨carried P _ (by omega) _ _ _ _ _ _ hx H C _ (carry_next m c t h0 h1), fun l => ?_⟩
  rw [row_next m c t h0 h1]
  refine sums P _ (by omega) _ _ _ _ _ _ hx H C t.val rfl _ (fun l => ?_) l
  rw [ih.sums, hn]

/-- Every point before the last, by induction. -/
theorem after_all : ∀ (n : ℕ) (h : n < cfg0.N), n < 4 → After P n (outsAt0 m c n h)
  | 0, h, _ => after_first m c P hP ⟨0, h⟩ rfl
  | n + 1, h, h4 =>
    after_next m c P hP ⟨n + 1, h⟩ (by show ¬(n + 1) % 5 = 0; omega) (by show ¬(n + 1) % 5 = 4; omega) n rfl
      (after_all n (Nat.lt_of_succ_lt h) (by omega))

/-- The last point leaves, in the first 128 lanes of the output row, the linear layer of the mean, through the softplus. -/
theorem after_last (t : Fin cfg0.N) (h4 : t.val = 4) (f : Fin 128) :
    (outsAt0 m c t.val t.isLt).1 (ix2 (0 : Fin 1) (⟨f.val, by omega⟩ : Fin 256))
      = softplus ((∑ e : Fin 128, ((P.total e * eps : ℝ) : EReal) * (m (c.tc.loc main_arg6) : Vec Ideal S128x128 .f32) (ix2 f e))
        + (m (c.tc.loc main_arg7) : Vec Ideal S128 .f32) (ix1 f)) := by
  have hx := block_pairs m c P hP t
  have H := holds m c P hP t
  have ih := after_all m c P hP (t.val - 1) (Nat.lt_of_le_of_lt (Nat.sub_le _ _) t.isLt) (by omega)
  have e : 10000 * (t.val : ℤ) = 10000 * ((t.val - 1 : ℕ) : ℤ) + 10000 := by omega
  have q : 10000 * (t.val : ℤ) = 40000 := by omega
  have C : Carried P (10000 * (t.val : ℤ)) (halos (outsAt0 m c (t.val - 1) (Nat.lt_of_le_of_lt (Nat.sub_le _ _) t.isLt)).2) := by
    rw [e]
    exact ih.carried
  rw [row_last m c t (by omega) (by omega), whole5, whole6]
  refine finish_at _ _ (mean_row P _ (fun l => ?_) _ _ (chain_row P _ (by omega) _ _ _ _ _ _ hx H C q) (last4_row P _ (by omega) _ _ _ _ _ _ hx H C q)) _ _ f
  refine (sums P _ (by omega) _ _ _ _ _ _ hx H C t.val rfl _ (fun l => ?_) l).trans ?_
  · rw [ih.sums, show 10000 * (t.val - 1 + 1) = 10000 * t.val by omega]
  · rw [show 10000 * (t.val + 1) = 50000 by omega]

end

end Cert.KernelIdeal.State

end
-- ==== Proof.KernelRun.lean ====
/-
  The kernel's run: the output row written back once, after the last grid point, and its first 128 lanes read by the host.
-/
module

public import proofs.«01_k».proof.Proof.State
public import Idealize.ShloMosaic.Lib.Claim
public import Idealize.ShloMosaic.Lib.Pointwise

@[expose] public section

set_option maxRecDepth 16384

noncomputable section

namespace Cert.KernelIdeal.KernelRun

open Idealize.ShloMosaic Idealize.ShloMosaic.TcCoe Idealize.ShloMosaic.Tactic Idealize.SL.Sem Cert.KernelIdeal Cert.KernelIdeal.Gen Cert.KernelIdeal.Layer
  Cert.KernelIdeal.Last Cert.KernelIdeal.Blocks Cert.KernelIdeal.State Cert.Net

variable (m : (ℓ : Loc nD τ sig) → Buf (Elt Ideal) ℓ) (ρ : Dev nD → PrngReg) (c : Dev nD)

/-- The last point. -/
def lastPt : Fin cfg0.N := ⟨4, by rw [show cfg0.N = 5 from N_0]; decide⟩

/-- The output row after the last point. -/
abbrev row : Buf (Elt Ideal) ((c : Thread nD τ).loc main_call0_v46) := (outsAt0 m c lastPt.val lastPt.isLt).1

/-- The one write-back writes that row: the block is the whole array. -/
theorem flushed_eq (t : Fin cfg0.N) (hf : (cfg0.win 7).flush t = true) :
    (dats m 0 c).flushed 7 t = ((cfg0.win 7).blk t).view.read (Elt Ideal) (row m c) := by
  have hN : cfg0.N = 5 := N_0
  have h4 : t.val = 4 := by have := (flush0_7 t).mp hf; have := t.isLt; omega
  obtain rfl : t = lastPt := Fin.ext h4
  show (cfg0.win 7).cut (grid0.coords lastPt) ((dats m 0 c).after 7 lastPt) = _
  rw [after0_7]
  have hz : (fun a => win0_7.index lastPt a * main_call0_v46.ty.shape.size a) = fun _ => 0 := funext fun a => by fin_cases a <;> exact Nat.zero_mul _
  exact (Memref.read_access_unit_zero (Elt Ideal) main_call0_v46 hz (fun a => by rw [congrFun hz a]; simp) (row m c)).symm

/-- The output array ends at that row. -/
theorem final : (dats m 0 c).arrAt 7 cfg0.N = row m c :=
  (dats m 0 c).arrAt_eq_of_cover 7 (row m c) (flushed_eq m c) fun i =>
    ⟨lastPt, (flush0_7 lastPt).mpr rfl, by
      show i ∈ ((View.whole main_call0_v46).slice (win0_7.rect lastPt)).set
      rw [View.set_slice_whole, Rect.mem_set_unit]
      intro a
      have h0 : (i 0 : Nat) < 1 := (i 0).isLt
      have h1 : (i 1 : Nat) < 256 := (i 1).isLt
      match a with
      | ⟨0, _⟩ => show win0_7.index lastPt 0 * win0_7.size 0 ≤ (i 0 : Nat) ∧ (i 0 : Nat) < win0_7.index lastPt 0 * win0_7.size 0 + win0_7.xsize (grid0.coords lastPt) 0
                  rw [show win0_7.index lastPt 0 * win0_7.size 0 = 0 from by decide +kernel, show win0_7.xsize (grid0.coords lastPt) 0 = 1 from by decide +kernel]; omega
      | ⟨1, _⟩ => show win0_7.index lastPt 1 * win0_7.size 1 ≤ (i 1 : Nat) ∧ (i 1 : Nat) < win0_7.index lastPt 1 * win0_7.size 1 + win0_7.xsize (grid0.coords lastPt) 1
                  rw [show win0_7.index lastPt 1 * win0_7.size 1 = 0 from by decide +kernel, show win0_7.xsize (grid0.coords lastPt) 1 = 256 from by decide +kernel]; omega⟩

/-- The host's read of the row: its first 128 lanes. -/
abbrev head (x : FVec Ideal S1x256 .f32) : FVec Ideal S128 .f32 :=
  shapeCast S128 (extractStridedSlice S1x128 ![0, 0] x slices_S1x256_S1x128_0_0) shapeCasts_S1x128_S128

theorem head_at (x : FVec Ideal S1x256 .f32) (f : Fin 128) : head x (ix1 f) = x (ix2 (0 : Fin 1) (⟨f.val, by omega⟩ : Fin 256)) := by
  pointwise [head]

/-- The result array, from the output array. -/
theorem tail : Pipeline.afterTail₀ cfgs (dats m) 0 (V0 m) [hostOps1] c main_v0 = head (row m c) := by
  have e : Pipeline.afterTail₀ cfgs (dats m) 0 (V0 m) [hostOps1] c main_v0
      = head (Pipeline.withArrays (cfgs 0).spec c (V0 m c) (fun w => (dats m 0 c).arrAt w cfg0.N) (Proc.devRef .tc main_call0_v46)) := by
    unfold Pipeline.afterTail₀
    simp only [List.flatten_cons, List.flatten_nil, List.append_nil]
    after_results
    rfl
  rw [e]
  refine congrArg head ?_
  exact (Pipeline.withArrays_arr spec0 (by decide) c (V0 m c) (fun w => (dats m 0 c).arrAt w cfg0.N) 7).trans (final m c)

/-- The kernel's run: the result read from the output row, the arguments unchanged. -/
theorem run :
    θ_run defs (onTc (τ := τ) (main (F := Ideal))) ⟨m, fun _ => 0, ρ⟩ fun r =>
      ((∀ c : Dev nD, r.2.mem ((c.tc : Thread nD τ).loc main_v0) = head (row m c)) ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))) :=
  θ_run_and ((θ_run defs _ _).mono (fun r h c => ((h c).2 main_v0 (Pipeline.mem_restRefs_of main_v0 (by decide) (by decide))).trans (tail m c)) (run_main m ρ))
    (unchanged m ρ)

/-- The result at every index. -/
theorem value (P : Params) (hP : Args m c P) (f : Fin 128) :
    head (row m c) (ix1 f)
      = softplus ((∑ e : Fin 128, ((P.total e * eps : ℝ) : EReal) * (m (c.tc.loc main_arg6) : Vec Ideal S128x128 .f32) (ix2 f e))
        + (m (c.tc.loc main_arg7) : Vec Ideal S128 .f32) (ix1 f)) :=
  (head_at _ f).trans (after_last m c P hP lastPt rfl f)

end Cert.KernelIdeal.KernelRun

end
-- ==== Proof.Edges.lean ====
/-
  The reference's edges. The chain's edge `e < 99999` goes from node `e` to node `e + 1`; the other 100000 edges are the
  self loops, of weight zero. The edge weights come from the out-degrees, and one propagation scatters the weighted rows.
-/
module

public import proofs.«01_k».proof.Proof.Gen.ReferenceIdeal
public import proofs.«01_k».proof.Proof.Scalars
public import Idealize.ShloMosaic.Lib.Pointwise
public import Idealize.ShloMosaic.Lib.Routing.OpsPair

@[expose] public section

set_option maxRecDepth 16384

noncomputable section

namespace Cert.ReferenceIdeal.Edges

open Idealize.ShloMosaic Idealize.ShloMosaic.TcCoe Cert.ReferenceIdeal Cert.ReferenceIdeal.Gen Cert.Net

/-! ## The scatters and gathers, at an index -/

abbrev sc1 : ScatterDims S100000 S99999x1 S99999 := scatter_S100000_S99999x1_S99999_n_0_0_1
abbrev sc3 : ScatterDims S1x100000x128 S199999x1 S1x199999x128 := scatter_S1x100000x128_S199999x1_S1x199999x128_02_1_1_1
abbrev ga1 : GatherDims S100000 S99999x1 S99999 := gather_S100000_S99999x1_S99999_n_0_n_n_0_1_1
abbrev ga3 : GatherDims S1x100000x128 S199999x1 S1x199999x128 := gather_S1x100000x128_S199999x1_S1x199999x128_02_1_n_n_1_1_11128

theorem small (k : ℕ) (h : k < 100000) : (BitVec.ofNat 32 k).toInt = (k : Int) :=
  StableHlo.Predicate.toInt_ofNat_small _ (by omega)

theorem window1 (i : Fin 99999) : sc1.window (ix1 i) (0 : Fin 1) = 0 := rfl

theorem start1 (idx : IVec S99999x1 32) (i : Fin 99999) : sc1.start (ix1 i) idx (0 : Fin 1) = (idx (ix2 i (0 : Fin 1))).toInt := by
  refine congrArg (fun k => (idx k).toInt) (?_ : sc1.siIdx (ix1 i) ⟨0, by decide⟩ = ix2 i (0 : Fin 1))
  funext b
  match b with
  | ⟨0, _⟩ => rfl
  | ⟨1, _⟩ => rfl

/-- Update `i` of the vector's scatter lands at its index. -/
theorem lands1 (idx : IVec S99999x1 32) (i : Fin 99999) (k : ℕ) (hk : k < 100000) (h : idx (ix2 i (0 : Fin 1)) = BitVec.ofNat 32 k) (n : Fin 100000) :
    sc1.resultIdx? (ix1 i) idx = some (ix1 n) ↔ k = n.val := by
  rw [Routing.resultIdx?_eq_some]
  have e : sc1.start (ix1 i) idx (0 : Fin 1) + (sc1.window (ix1 i) (0 : Fin 1) : Int) = (k : Int) := by
    rw [start1, window1, h, small k hk]; rfl
  constructor
  · intro q
    have := e.symm.trans (q 0)
    exact_mod_cast this
  · intro q a
    match a with
    | ⟨0, _⟩ => exact e.trans (congrArg Nat.cast q)

theorem start3 (idx : IVec S199999x1 32) (u : Fin 1) (e : Fin 199999) (f : Fin 128) :
    sc3.start (ix3 u e f) idx (1 : Fin 3) = (idx (ix2 e (0 : Fin 1))).toInt := by
  refine congrArg (fun k => (idx k).toInt) (?_ : sc3.siIdx (ix3 u e f) ⟨0, by decide⟩ = ix2 e (0 : Fin 1))
  funext b
  match b with
  | ⟨0, _⟩ => rfl
  | ⟨1, _⟩ => rfl

/-- Row `e` of the rows' scatter lands at its index, feature by feature. -/
theorem lands3 (idx : IVec S199999x1 32) (e : Fin 199999) (k : ℕ) (hk : k < 100000) (h : idx (ix2 e (0 : Fin 1)) = BitVec.ofNat 32 k)
    (u v : Fin 1) (f g : Fin 128) (n : Fin 100000) :
    sc3.resultIdx? (ix3 u e f) idx = some (ix3 v n g) ↔ k = n.val ∧ f = g := by
  rw [Routing.resultIdx?_eq_some]
  have e0 : sc3.start (ix3 u e f) idx (0 : Fin 3) + (sc3.window (ix3 u e f) (0 : Fin 3) : Int) = (u.val : Int) := by
    show (0 : Int) + (u.val : Int) = _
    omega
  have e1 : sc3.start (ix3 u e f) idx (1 : Fin 3) + (sc3.window (ix3 u e f) (1 : Fin 3) : Int) = (k : Int) := by
    rw [start3, h, small k hk]; rfl
  have e2 : sc3.start (ix3 u e f) idx (2 : Fin 3) + (sc3.window (ix3 u e f) (2 : Fin 3) : Int) = (f.val : Int) := by
    show (0 : Int) + (f.val : Int) = _
    omega
  constructor
  · intro q
    have q1 : (k : Int) = (n.val : Int) := e1.symm.trans (q 1)
    have q2 : (f.val : Int) = (g.val : Int) := e2.symm.trans (q 2)
    exact ⟨by exact_mod_cast q1, Fin.ext (by exact_mod_cast q2)⟩
  · rintro ⟨q, rfl⟩ a
    match a with
    | ⟨0, _⟩ => exact e0.trans (by rw [Subsingleton.elim u v]; rfl)
    | ⟨1, _⟩ => exact e1.trans (congrArg Nat.cast q)
    | ⟨2, _⟩ => exact e2

/-- Entry `i` of a take from a vector is the entry its index names. -/
theorem gather1 (x : FVec Ideal S100000 .f32) (idx : IVec S99999x1 32) (i : Fin 99999) (n : Fin 100000)
    (h : idx (ix2 i (0 : Fin 1)) = BitVec.ofNat 32 n.val) : Host.gather ga1 x idx (ix1 i) = x (ix1 n) := by
  unfold Host.gather
  refine congrArg x (funext fun a => Fin.ext ?_)
  match a with
  | ⟨0, _⟩ =>
    have e : ga1.siIdx (ix1 i) ⟨0, by decide⟩ = ix2 i (0 : Fin 1) := by
      funext b
      match b with
      | ⟨0, _⟩ => rfl
      | ⟨1, _⟩ => rfl
    show min (idx (ga1.siIdx (ix1 i) ⟨0, _⟩)).toInt.toNat (100000 - 1) + 0 + 0 = n.val
    rw [e, h, small _ n.isLt]
    omega

/-- Row `e` of a take of rows is the row its index names. -/
theorem gather3 (x : FVec Ideal S1x100000x128 .f32) (idx : IVec S199999x1 32) (u : Fin 1) (e : Fin 199999) (f : Fin 128) (n : Fin 100000)
    (h : idx (ix2 e (0 : Fin 1)) = BitVec.ofNat 32 n.val) : Host.gather ga3 x idx (ix3 u e f) = x (ix3 u n f) := by
  unfold Host.gather
  refine congrArg x (funext fun a => Fin.ext ?_)
  match a with
  | ⟨0, _⟩ => show 0 + 0 + u.val = u.val; omega
  | ⟨1, _⟩ =>
    have e : ga3.siIdx (ix3 u e f) ⟨0, by decide⟩ = ix2 e (0 : Fin 1) := by
      funext b
      match b with
      | ⟨0, _⟩ => rfl
      | ⟨1, _⟩ => rfl
    show min (idx (ga3.siIdx (ix3 u _ f) ⟨0, _⟩)).toInt.toNat (100000 - 1) + 0 + 0 = n.val
    rw [e, h, small _ n.isLt]
    omega
  | ⟨2, _⟩ => show 0 + 0 + f.val = f.val; omega

/-! ## The index words -/

/-- A vector of node numbers as the column of indices the chain's edges use: a negative number would count from the end. -/
abbrev column1 (v : IVec S99999 32) : IVec S99999x1 32 :=
  broadcastInDim S99999x1 ![0] bcast_S99999_S99999x1_0 (select (cmpi .slt v (broadcastInDim S99999 ![] bcast_S_S99999 (constantI S_ 32 0#32)))
    (addi v (broadcastInDim S99999 ![] bcast_S_S99999 (constantI S_ 32 100000#32))) v)

/-- The same, of all the edges. -/
abbrev column3 (v : IVec S199999 32) : IVec S199999x1 32 :=
  broadcastInDim S199999x1 ![0] bcast_S199999_S199999x1_0 (select (cmpi .slt v (broadcastInDim S199999 ![] bcast_S_S199999 (constantI S_ 32 0#32)))
    (addi v (broadcastInDim S199999 ![] bcast_S_S199999 (constantI S_ 32 100000#32))) v)

theorem wrap (k : ℕ) (hk : k < 100000) (a : BitVec 32) :
    Scalar.select (IntOp.cmpi .slt (BitVec.ofNat 32 k) 0#32) a (BitVec.ofNat 32 k) = BitVec.ofNat 32 k :=
  Routing.wrap_of_lt _ _ (by rw [BitVec.toNat_ofNat]; omega)

theorem column1_at (v : IVec S99999 32) (i : Fin 99999) (k : ℕ) (hk : k < 100000) (h : v (ix1 i) = BitVec.ofNat 32 k) :
    column1 v (ix2 i (0 : Fin 1)) = BitVec.ofNat 32 k := by
  have e : column1 v (ix2 i (0 : Fin 1))
      = Scalar.select (IntOp.cmpi .slt (v (ix1 i)) 0#32) (IntOp.addi (v (ix1 i)) 100000#32) (v (ix1 i)) := by pointwise [column1]
  rw [e, h]
  exact wrap k hk _

theorem column3_at (v : IVec S199999 32) (e : Fin 199999) (k : ℕ) (hk : k < 100000) (h : v (ix1 e) = BitVec.ofNat 32 k) :
    column3 v (ix2 e (0 : Fin 1)) = BitVec.ofNat 32 k := by
  have q : column3 v (ix2 e (0 : Fin 1))
      = Scalar.select (IntOp.cmpi .slt (v (ix1 e)) 0#32) (IntOp.addi (v (ix1 e)) 100000#32) (v (ix1 e)) := by pointwise [column3]
  rw [q, h]
  exact wrap k hk _

/-- The chain's edges' sources. -/
abbrev from1 : IVec S99999 32 := iotaInDim S99999 32 0
/-- The chain's edges' targets. -/
abbrev to1 : IVec S99999 32 := addi (broadcastInDim S99999 ![] bcast_S_S99999 (constantI S_ 32 1#32)) (iotaInDim S99999 32 0)
/-- The chain's edges and the self loops. -/
abbrev loops (v : IVec S99999 32) : IVec S199999 32 :=
  concatenate S199999 0 [⟨S99999, v⟩, ⟨S100000, iotaInDim S100000 32 0⟩] concatenates_S99999_S100000_S199999_d0

theorem from1_at (i : Fin 99999) : from1 (ix1 i) = BitVec.ofNat 32 i.val := by
  pointwise [from1]
theorem to1_at (i : Fin 99999) : to1 (ix1 i) = BitVec.ofNat 32 (i.val + 1) := by
  have e : to1 (ix1 i) = IntOp.addi 1#32 (BitVec.ofNat 32 i.val) := by pointwise [to1]
  rw [e, Nat.add_comm, BitVec.ofNat_add]; rfl

theorem loops_edge (w : IVec S99999 32) (e : Fin 199999) (h : e.val < 99999) : loops w (ix1 e) = w (ix1 ⟨e.val, h⟩) := by
  pointwise [loops]
  simp [h]
theorem loops_loop (w : IVec S99999 32) (e : Fin 199999) (h : ¬e.val < 99999) : loops w (ix1 e) = BitVec.ofNat 32 (e.val - 99999) := by
  pointwise [loops]
  simp [h]

/-! ## The degrees and the weights -/

abbrev ones1 : FVec Ideal S99999 .f32 := broadcastInDim S99999 ![] bcast_S_S99999 (constant S_ .f32 0x3F800000#32)

/-- The number of edges out of each node. -/
abbrev degree : FVec Ideal S100000 .f32 :=
  Host.scatterAdd sc1 (broadcastInDim S100000 ![] bcast_S_S100000 (constant S_ .f32 0x00000000#32)) (column1 from1) ones1

/-- Its inverse root, zero where the degree is. -/
abbrev root (d : FVec Ideal S100000 .f32) : FVec Ideal S100000 .f32 :=
  select (cmpf .ogt d (broadcastInDim S100000 ![] bcast_S_S100000 (constant S_ .f32 0x00000000#32)))
    (Host.divf (broadcastInDim S100000 ![] bcast_S_S100000 (constant S_ .f32 0x3F800000#32))
      (Host.sqrt (select (cmpf .ogt d (broadcastInDim S100000 ![] bcast_S_S100000 (constant S_ .f32 0x00000000#32))) d
        (broadcastInDim S100000 ![] bcast_S_S100000 (id (constant S_ .f32 0x3F800000#32))))))
    (broadcastInDim S100000 ![] bcast_S_S100000 (id (constant S_ .f32 0x00000000#32)))

/-- The edges' weights, from the inverse roots at their two ends; the self loops weigh zero. -/
abbrev edgeWeights (p q : FVec Ideal S99999 .f32) : FVec Ideal S99999 .f32 := Host.negf (mulf (mulf p ones1) q)

abbrev weights (d : FVec Ideal S100000 .f32) : FVec Ideal S199999 .f32 :=
  concatenate S199999 0 [⟨S99999, edgeWeights (Host.gather ga1 d (column1 from1)) (Host.gather ga1 d (column1 to1))⟩,
    ⟨S100000, (broadcastInDim S100000 ![] bcast_S_S100000 (constant S_ .f32 0x00000000#32))⟩] concatenates_S99999_S100000_S199999_d0

theorem degree_sum (n : Fin 100000) :
    degree (ix1 n) = Ideal.ofBits .f32 0x00000000#32
      + ∑ j ∈ Finset.univ.filter (fun j => sc1.resultIdx? j (column1 from1) = some (ix1 n)), Ideal.ofBits .f32 0x3F800000#32 := rfl

/-- Every node but the last has one edge out. -/
theorem degree_at (n : Fin 100000) : degree (ix1 n) = (((if n.val < 99999 then 1 else 0 : ℝ)) : EReal) := by
  rw [degree_sum, Ideal.ofBits_zero_f32, zero_add, Consts.ofBits_one]
  have hl : ∀ i : Fin 99999, sc1.resultIdx? (ix1 i) (column1 from1) = some (ix1 n) ↔ i.val = n.val := fun i =>
    lands1 _ i i.val (by omega) (column1_at _ i _ (by omega) (from1_at i)) n
  by_cases h : n.val < 99999
  · rw [if_pos h, Finset.sum_eq_single (ix1 (⟨n.val, h⟩ : Fin 99999))]
    · intro j hj hne
      refine (hne ?_).elim
      rw [eq_ix1 j] at hj ⊢
      exact congrArg ix1 (Fin.ext ((hl _).1 (Finset.mem_filter.1 hj).2))
    · intro hj
      exact (hj (Finset.mem_filter.2 ⟨Finset.mem_univ _, (hl _).2 rfl⟩)).elim
  · rw [if_neg h]
    refine (Finset.sum_eq_zero fun j hj => ?_).trans EReal.coe_zero.symm
    rw [eq_ix1 j] at hj
    have := (hl _).1 (Finset.mem_filter.1 hj).2
    have := (j 0).isLt
    exact absurd (this : (j 0).val < 99999) (by omega)

theorem root_at (d : FVec Ideal S100000 .f32) (n : Fin 100000) (r : ℝ) (hr : r = 0 ∨ r = 1) (h : d (ix1 n) = ((r : ℝ) : EReal)) :
    root d (ix1 n) = ((r : ℝ) : EReal) := by
  pointwise [root]
  rw [h]
  rcases hr with rfl | rfl
  · rw [if_neg (by simp)]
    exact Ideal.ofBits_zero_f32.trans EReal.coe_zero.symm
  · have h1 : (0 : EReal) < ((1 : ℝ) : EReal) := by simp
    rw [if_pos h1, if_pos h1, Ideal.sqrt_coe, if_neg (by norm_num), Real.sqrt_one, ← EReal.coe_one, Scalars.div_real _ _ one_ne_zero, div_one]

theorem edge_at (p q : FVec Ideal S99999 .f32) (i : Fin 99999) (a b : ℝ) (ha : p (ix1 i) = ((a : ℝ) : EReal)) (hb : q (ix1 i) = ((b : ℝ) : EReal)) :
    edgeWeights p q (ix1 i) = ((-(a * b) : ℝ) : EReal) := by
  pointwise [edgeWeights]
  rw [ha, hb, ← EReal.coe_mul, ← EReal.coe_neg]

theorem weights_edge (p : FVec Ideal S99999 .f32) (e : Fin 199999) (h : e.val < 99999) :
    concatenate S199999 0 [⟨S99999, p⟩, ⟨S100000, (broadcastInDim S100000 ![] bcast_S_S100000 (constant (F := Ideal) S_ .f32 0x00000000#32))⟩]
      concatenates_S99999_S100000_S199999_d0 (ix1 e) = p (ix1 ⟨e.val, h⟩) := by
  pointwise []
  simp [h]

theorem weights_loop (p : FVec Ideal S99999 .f32) (e : Fin 199999) (h : ¬e.val < 99999) :
    concatenate S199999 0 [⟨S99999, p⟩, ⟨S100000, (broadcastInDim S100000 ![] bcast_S_S100000 (constant (F := Ideal) S_ .f32 0x00000000#32))⟩]
      concatenates_S99999_S100000_S199999_d0 (ix1 e) = 0 := by
  pointwise []
  simp [h]

/-- The chain's edge `e` weighs `-1`, but for the edge into the last node, which weighs zero; the self loops weigh zero. -/
theorem weights_at (e : Fin 199999) : weights (root degree) (ix1 e) = (((if e.val < 99998 then -1 else 0 : ℝ)) : EReal) := by
  have hroot : ∀ n : Fin 100000, root degree (ix1 n) = (((if n.val < 99999 then 1 else 0 : ℝ)) : EReal) := fun n =>
    root_at _ n _ (by by_cases h : n.val < 99999 <;> simp [h]) (degree_at n)
  by_cases h : e.val < 99999
  · refine (weights_edge _ e h).trans ?_
    refine (edge_at _ _ ⟨e.val, h⟩ _ _ ((gather1 _ _ _ ⟨e.val, by omega⟩ (column1_at _ _ _ (by omega) (from1_at _))).trans (hroot _))
      ((gather1 _ _ _ ⟨e.val + 1, by omega⟩ (column1_at _ _ _ (by omega) (to1_at _))).trans (hroot _))).trans ?_
    refine congrArg (fun t : ℝ => (t : EReal)) ?_
    show -((if e.val < 99999 then (1 : ℝ) else 0) * (if e.val + 1 < 99999 then 1 else 0)) = _
    rw [if_pos h, one_mul]
    by_cases h' : e.val < 99998
    · rw [if_pos h', if_pos (by omega)]
    · rw [if_neg h', if_neg (by omega), neg_zero]
  · refine (weights_loop _ e h).trans ?_
    rw [if_neg (by omega), EReal.coe_zero]

/-! ## One propagation -/

/-- A value vector of the nodes that is a real chain's. -/
def IsNodes (X : Nodes) (x : FVec Ideal S1x100000x128 .f32) : Prop :=
  ∀ (n : Fin 100000) (f : Fin 128), x (ix3 (0 : Fin 1) n f) = ((X (n.val : ℤ) f : ℝ) : EReal)

/-- The rows taken along the edges, weighted. -/
abbrev messages (w : FVec Ideal S199999 .f32) (t : FVec Ideal S1x199999x128 .f32) : FVec Ideal S1x199999x128 .f32 :=
  mulf t (broadcastInDim S1x199999x128 ![0, 1, 2] bcast_S1x199999x1_S1x199999x128_0_1_2 (broadcastInDim S1x199999x1 ![1] bcast_S199999_S1x199999x1_1 w))

/-- One propagation: the weighted rows of the edges' sources, summed at their targets. -/
abbrev propagate (r s : IVec S199999 32) (w : FVec Ideal S199999 .f32) (x : FVec Ideal S1x100000x128 .f32) : FVec Ideal S1x100000x128 .f32 :=
  Host.scatterAdd sc3 (broadcastInDim S1x100000x128 ![] bcast_S_S1x100000x128 (constant S_ .f32 0x00000000#32)) (column3 s)
    (messages w (Host.gather ga3 x (column3 r)))

theorem messages_at (w : FVec Ideal S199999 .f32) (t : FVec Ideal S1x199999x128 .f32) (u : Fin 1) (e : Fin 199999) (f : Fin 128) :
    messages w t (ix3 u e f) = t (ix3 u e f) * w (ix1 e) := by
  pointwise [messages]

theorem propagate_sum (r s : IVec S199999 32) (w : FVec Ideal S199999 .f32) (x : FVec Ideal S1x100000x128 .f32) (i : S1x100000x128.Idx) :
    propagate r s w x i = Ideal.ofBits .f32 0x00000000#32
      + ∑ j ∈ Finset.univ.filter (fun j => sc3.resultIdx? j (column3 s) = some i), messages w (Host.gather ga3 x (column3 r)) j := rfl

/-- One propagation over the reals: minus the node before, for the nodes 1 to 99998; zero elsewhere. -/
theorem propagate_nodes (r s : IVec S199999 32) (w : FVec Ideal S199999 .f32) (hr : r = loops from1) (hs : s = loops to1)
    (hw : ∀ e : Fin 199999, w (ix1 e) = (((if e.val < 99998 then -1 else 0 : ℝ)) : EReal))
    (X : Nodes) (x : FVec Ideal S1x100000x128 .f32) (hx : IsNodes X x) : IsNodes (Params.prop X) (propagate r s w x) := by
  intro n f
  rw [propagate_sum, Ideal.ofBits_zero_f32, zero_add]
  -- an edge's message, and where it lands
  have edge : ∀ (e : Fin 199999) (h : e.val < 99999) (u : Fin 1) (g : Fin 128),
      sc3.resultIdx? (ix3 u e g) (column3 s) = some (ix3 (0 : Fin 1) n f) ↔ e.val + 1 = n.val ∧ g = f := fun e h u g =>
    lands3 _ e (e.val + 1) (by omega) (column3_at _ e _ (by omega) ((congrFun hs _).trans ((loops_edge _ e h).trans (to1_at _)))) u 0 g f n
  have loop : ∀ (e : Fin 199999) (h : ¬e.val < 99999) (u : Fin 1) (g : Fin 128), messages w (Host.gather ga3 x (column3 r)) (ix3 u e g) = 0 := by
    intro e h u g
    rw [messages_at, hw, if_neg (by omega), EReal.coe_zero, mul_zero]
  have msg : ∀ (e : Fin 199999) (h : e.val < 99999) (g : Fin 128), messages w (Host.gather ga3 x (column3 r)) (ix3 (0 : Fin 1) e g)
      = ((X (e.val : ℤ) g * (if e.val < 99998 then -1 else 0) : ℝ) : EReal) := by
    intro e h g
    rw [messages_at, hw, gather3 x _ 0 e g ⟨e.val, by omega⟩ (column3_at _ e _ (by omega) ((congrFun hr _).trans ((loops_edge _ e h).trans (from1_at _)))),
      hx, ← EReal.coe_mul]
  unfold Params.prop
  by_cases h1 : 1 ≤ n.val
  · have hn := n.isLt
    have hlt : n.val - 1 < 99999 := by omega
    rw [Finset.sum_eq_single (ix3 (0 : Fin 1) (⟨n.val - 1, by omega⟩ : Fin 199999) f)]
    · refine (msg _ hlt f).trans (congrArg (fun t : ℝ => (t : EReal)) ?_)
      show X ((n.val - 1 : ℕ) : ℤ) f * (if n.val - 1 < 99998 then -1 else 0) = _
      have e1 : ((n.val - 1 : ℕ) : ℤ) = (n.val : ℤ) - 1 := by omega
      rw [e1]
      by_cases h' : n.val - 1 < 99998
      · rw [if_pos h', if_pos (by omega)]; ring
      · rw [if_neg h', if_neg (by omega), mul_zero]
    · intro j hj hne
      rw [eq_ix3 j] at hj hne ⊢
      by_cases h : (j 1).val < 99999
      · obtain ⟨a, b⟩ := (edge _ h _ _).1 (Finset.mem_filter.1 hj).2
        refine (hne ?_).elim
        have c : j 1 = (⟨n.val - 1, by omega⟩ : Fin 199999) := Fin.ext (by show (j 1).val = n.val - 1; omega)
        have z : j 0 = (0 : Fin 1) := Subsingleton.elim (α := Fin 1) _ _
        rw [b, c, z]
      · exact loop _ h _ _
    · intro hj
      exact (hj (Finset.mem_filter.2 ⟨Finset.mem_univ _, (edge _ hlt _ _).2 ⟨by show n.val - 1 + 1 = n.val; omega, rfl⟩⟩)).elim
  · rw [if_neg (by omega)]
    refine (Finset.sum_eq_zero fun j hj => ?_).trans EReal.coe_zero.symm
    rw [eq_ix3 j] at hj ⊢
    by_cases h : (j 1).val < 99999
    · obtain ⟨a, b⟩ := (edge _ h _ _).1 (Finset.mem_filter.1 hj).2
      omega
    · exact loop _ h _ _

end Cert.ReferenceIdeal.Edges

end
-- ==== Proof.RefLayer.lean ====
/-
  One layer of the reference on a value vector that is a real chain's: the Chebyshev convolution, the graph normalisation
  and the leaky rectifier, each at every index.
-/
module

public import proofs.«01_k».proof.Proof.Edges
public import proofs.«01_k».proof.Proof.Pre

@[expose] public section

set_option maxRecDepth 16384

noncomputable section

namespace Cert.ReferenceIdeal.RefLayer

open Idealize.ShloMosaic Idealize.ShloMosaic.TcCoe Cert.ReferenceIdeal Cert.ReferenceIdeal.Gen Cert.ReferenceIdeal.Edges Cert.Net

/-! ## Parameters read off their stacks -/

/-- A row read into every node. -/
abbrev everyNode (x : FVec Ideal S1x128 .f32) : FVec Ideal S1x100000x128 .f32 :=
  broadcastInDim S1x100000x128 ![0, 1, 2] bcast_S1x1x128_S1x100000x128_0_1_2 (broadcastInDim S1x1x128 ![2] bcast_S128_S1x1x128_2
    (shapeCast S128 x shapeCasts_S1x128_S128))

theorem everyNode_at (x : FVec Ideal S1x128 .f32) (n : Fin 100000) (f : Fin 128) :
    everyNode x (ix3 (0 : Fin 1) n f) = x (ix2 (0 : Fin 1) f) := by
  pointwise [everyNode]

theorem row0 (a : FVec Ideal S4x128 .f32) (f : Fin 128) : extractStridedSlice S1x128 ![0, 0] a slices_S4x128_S1x128_0_0 (ix2 (0 : Fin 1) f) = a (ix2 (0 : Fin 4) f) := by
  pointwise []
theorem row1 (a : FVec Ideal S4x128 .f32) (f : Fin 128) : extractStridedSlice S1x128 ![1, 0] a slices_S4x128_S1x128_1_0 (ix2 (0 : Fin 1) f) = a (ix2 (1 : Fin 4) f) := by
  pointwise []
theorem row2 (a : FVec Ideal S4x128 .f32) (f : Fin 128) : extractStridedSlice S1x128 ![2, 0] a slices_S4x128_S1x128_2_0 (ix2 (0 : Fin 1) f) = a (ix2 (2 : Fin 4) f) := by
  pointwise []
theorem row3 (a : FVec Ideal S4x128 .f32) (f : Fin 128) : extractStridedSlice S1x128 ![3, 0] a slices_S4x128_S1x128_3_0 (ix2 (0 : Fin 1) f) = a (ix2 (3 : Fin 4) f) := by
  pointwise []

/-- A layer's four matrices. -/
abbrev mats (x : FVec Ideal S1x4x128x128 .f32) : FVec Ideal S4x128x128 .f32 := shapeCast S4x128x128 x shapeCasts_S1x4x128x128_S4x128x128

theorem mats0 (a : FVec Ideal S4x4x128x128 .f32) (k : Fin 4) (e f : Fin 128) :
    mats (extractStridedSlice S1x4x128x128 ![0, 0, 0, 0] a slices_S4x4x128x128_S1x4x128x128_0_0_0_0) (ix3 k e f) = a (ix4 (0 : Fin 4) k e f) := by
  pointwise [mats]
theorem mats1 (a : FVec Ideal S4x4x128x128 .f32) (k : Fin 4) (e f : Fin 128) :
    mats (extractStridedSlice S1x4x128x128 ![1, 0, 0, 0] a slices_S4x4x128x128_S1x4x128x128_1_0_0_0) (ix3 k e f) = a (ix4 (1 : Fin 4) k e f) := by
  pointwise [mats]
theorem mats2 (a : FVec Ideal S4x4x128x128 .f32) (k : Fin 4) (e f : Fin 128) :
    mats (extractStridedSlice S1x4x128x128 ![2, 0, 0, 0] a slices_S4x4x128x128_S1x4x128x128_2_0_0_0) (ix3 k e f) = a (ix4 (2 : Fin 4) k e f) := by
  pointwise [mats]
theorem mats3 (a : FVec Ideal S4x4x128x128 .f32) (k : Fin 4) (e f : Fin 128) :
    mats (extractStridedSlice S1x4x128x128 ![3, 0, 0, 0] a slices_S4x4x128x128_S1x4x128x128_3_0_0_0) (ix3 k e f) = a (ix4 (3 : Fin 4) k e f) := by
  pointwise [mats]

abbrev mat0 (w : FVec Ideal S4x128x128 .f32) : FVec Ideal S128x128 .f32 := shapeCast S128x128 (extractStridedSlice S1x128x128 ![0, 0, 0] w slices_S4x128x128_S1x128x128_0_0_0) shapeCasts_S1x128x128_S128x128
abbrev mat1 (w : FVec Ideal S4x128x128 .f32) : FVec Ideal S128x128 .f32 := shapeCast S128x128 (extractStridedSlice S1x128x128 ![1, 0, 0] w slices_S4x128x128_S1x128x128_1_0_0) shapeCasts_S1x128x128_S128x128
abbrev mat2 (w : FVec Ideal S4x128x128 .f32) : FVec Ideal S128x128 .f32 := shapeCast S128x128 (extractStridedSlice S1x128x128 ![2, 0, 0] w slices_S4x128x128_S1x128x128_2_0_0) shapeCasts_S1x128x128_S128x128
abbrev mat3 (w : FVec Ideal S4x128x128 .f32) : FVec Ideal S128x128 .f32 := shapeCast S128x128 (extractStridedSlice S1x128x128 ![3, 0, 0] w slices_S4x128x128_S1x128x128_3_0_0) shapeCasts_S1x128x128_S128x128

theorem mat0_at (w : FVec Ideal S4x128x128 .f32) (e f : Fin 128) : mat0 w (ix2 e f) = w (ix3 (0 : Fin 4) e f) := by pointwise [mat0]
theorem mat1_at (w : FVec Ideal S4x128x128 .f32) (e f : Fin 128) : mat1 w (ix2 e f) = w (ix3 (1 : Fin 4) e f) := by pointwise [mat1]
theorem mat2_at (w : FVec Ideal S4x128x128 .f32) (e f : Fin 128) : mat2 w (ix2 e f) = w (ix3 (2 : Fin 4) e f) := by pointwise [mat2]
theorem mat3_at (w : FVec Ideal S4x128x128 .f32) (e f : Fin 128) : mat3 w (ix2 e f) = w (ix3 (3 : Fin 4) e f) := by pointwise [mat3]

/-! ## The convolution -/

/-- A matrix applied to every node. -/
abbrev apply (x : FVec Ideal S1x100000x128 .f32) (w : FVec Ideal S128x128 .f32) : FVec Ideal S1x100000x128 .f32 :=
  Host.dotGeneral dot_S1x100000x128_S128x128_S1x100000x128_2_0_01_1_n_n none x w

theorem apply_at (x : FVec Ideal S1x100000x128 .f32) (w : FVec Ideal S128x128 .f32) (n : Fin 100000) (f : Fin 128) :
    apply x w (ix3 (0 : Fin 1) n f) = ∑ e : Fin 128, x (ix3 (0 : Fin 1) n e) * w (ix2 e f) := by
  pointwise [apply]

theorem apply_nodes (X : Nodes) (A : Mat) (x : FVec Ideal S1x100000x128 .f32) (w : FVec Ideal S128x128 .f32) (hx : IsNodes X x)
    (hw : ∀ e f, w (ix2 e f) = ((A e f : ℝ) : EReal)) (n : Fin 100000) (f : Fin 128) :
    apply x w (ix3 (0 : Fin 1) n f) = ((dot (X (n.val : ℤ)) A f : ℝ) : EReal) := by
  rw [apply_at, dot, ← coe_sum]
  refine Finset.sum_congr rfl fun e _ => ?_
  rw [hx, hw, ← EReal.coe_mul]

/-- Twice one value less another, as the Chebyshev recurrence has it. -/
abbrev twiceLess (y x : FVec Ideal S1x100000x128 .f32) : FVec Ideal S1x100000x128 .f32 :=
  subf (mulf (broadcastInDim S1x100000x128 ![] bcast_S_S1x100000x128 (constant S_ .f32 0x40000000#32)) y) x

theorem twiceLess_at (y x : FVec Ideal S1x100000x128 .f32) (i : S1x100000x128.Idx) :
    twiceLess y x i = Ideal.ofBits .f32 0x40000000#32 * y i - x i := rfl

theorem twiceLess_nodes (Y X : Nodes) (y x : FVec Ideal S1x100000x128 .f32) (hy : IsNodes Y y) (hx : IsNodes X x) :
    IsNodes (fun n f => 2 * Y n f - X n f) (twiceLess y x) := by
  intro n f
  rw [twiceLess_at, hy, hx, Consts.ofBits_two, ← EReal.coe_mul, ← EReal.coe_sub]

/-- The four terms' sum and the bias. -/
abbrev convolve (x0 x1 x2 x3 : FVec Ideal S1x100000x128 .f32) (w : FVec Ideal S4x128x128 .f32) (b : FVec Ideal S1x128 .f32) : FVec Ideal S1x100000x128 .f32 :=
  addf (addf (addf (addf (apply x0 (mat0 w)) (apply x1 (mat1 w))) (apply x2 (mat2 w))) (apply x3 (mat3 w))) (everyNode b)

theorem convolve_at (x0 x1 x2 x3 : FVec Ideal S1x100000x128 .f32) (w : FVec Ideal S4x128x128 .f32) (b : FVec Ideal S1x128 .f32) (i : S1x100000x128.Idx) :
    convolve x0 x1 x2 x3 w b i = apply x0 (mat0 w) i + apply x1 (mat1 w) i + apply x2 (mat2 w) i + apply x3 (mat3 w) i + everyNode b i := rfl

/-! ## The normalisation -/

/-- The sum over the one graph, read back into every node, as a mean. -/
abbrev graphMean (x : FVec Ideal S1x100000x128 .f32) : FVec Ideal S1x100000x128 .f32 :=
  Host.divf (broadcastInDim S1x100000x128 ![1, 2] bcast_S100000x128_S1x100000x128_1_2
    (Host.reduceAdd x (constant S_ .f32 0x00000000#32) reducesTo_S1x100000x128_S100000x128_d0 h_S_))
    (broadcastInDim S1x100000x128 ![] bcast_S_S1x100000x128 (constant S_ .f32 0x3F800000#32))

theorem graphMean_at (x : FVec Ideal S1x100000x128 .f32) (n : Fin 100000) (f : Fin 128) (u : ℝ) (h : x (ix3 (0 : Fin 1) n f) = ((u : ℝ) : EReal)) :
    graphMean x (ix3 (0 : Fin 1) n f) = ((u : ℝ) : EReal) := by
  have e : graphMean x (ix3 (0 : Fin 1) n f) = Ideal.div (x (ix3 (0 : Fin 1) n f)) 1 := by
    pointwise [graphMean]
    exact congrArg (fun t => Ideal.div t 1) (Fin.sum_univ_one (fun u : Fin 1 => x (ix3 u n f)))
  rw [e, h, ← EReal.coe_one, Scalars.div_real _ _ one_ne_zero, div_one]

abbrev centred (x : FVec Ideal S1x100000x128 .f32) (s : FVec Ideal S1x128 .f32) : FVec Ideal S1x100000x128 .f32 :=
  subf x (mulf (graphMean x) (everyNode s))

theorem centred_at (x : FVec Ideal S1x100000x128 .f32) (s : FVec Ideal S1x128 .f32) (i : S1x100000x128.Idx) :
    centred x s i = x i - graphMean x i * everyNode s i := rfl

/-- The centred value over its root mean square plus 1/100000, weighted and shifted. -/
abbrev normalised (o : FVec Ideal S1x100000x128 .f32) (w b : FVec Ideal S1x128 .f32) : FVec Ideal S1x100000x128 .f32 :=
  addf (Host.divf (mulf (everyNode w) o) (Host.sqrt (addf (graphMean (mulf o o)) (broadcastInDim S1x100000x128 ![] bcast_S_S1x100000x128
    (Host.divf (constant S_ .f32 0x3F800000#32) (constant S_ .f32 0x47C35000#32)))))) (everyNode b)

theorem normalised_at (o : FVec Ideal S1x100000x128 .f32) (w b : FVec Ideal S1x128 .f32) (i : S1x100000x128.Idx) :
    normalised o w b i = Ideal.div (everyNode w i * o i) (Ideal.sqrt (graphMean (mulf o o) i
      + Ideal.div (Ideal.ofBits .f32 0x3F800000#32) (Ideal.ofBits .f32 0x47C35000#32))) + everyNode b i := rfl

/-- The leaky rectifier. -/
abbrev rectified (g : FVec Ideal S1x100000x128 .f32) : FVec Ideal S1x100000x128 .f32 :=
  select (cmpf .oge g (broadcastInDim S1x100000x128 ![] bcast_S_S1x100000x128 (constant S_ .f32 0x00000000#32))) g
    (mulf (broadcastInDim S1x100000x128 ![] bcast_S_S1x100000x128 (constant S_ .f32 0x3DCCCCCD#32)) g)

theorem rectified_at (g : FVec Ideal S1x100000x128 .f32) (n : Fin 100000) (f : Fin 128) (r : ℝ) (h : g (ix3 (0 : Fin 1) n f) = ((r : ℝ) : EReal)) :
    rectified g (ix3 (0 : Fin 1) n f) = (((if 0 ≤ r then r else slope * r : ℝ)) : EReal) := by
  pointwise [rectified]
  rw [h]
  exact Scalars.where_coe r

/-! ## A layer over the reals -/

section

variable (P : Params) (i : Fin 4) (X : Nodes) (x : FVec Ideal S1x100000x128 .f32) (hx : IsNodes X x)
  (w : FVec Ideal S4x128x128 .f32) (hw : ∀ k e f, w (ix3 k e f) = ((P.W i k e f : ℝ) : EReal))
  (cb gw gb ms : FVec Ideal S1x128 .f32)
  (hcb : ∀ f, cb (ix2 (0 : Fin 1) f) = ((P.cb i f : ℝ) : EReal)) (hgw : ∀ f, gw (ix2 (0 : Fin 1) f) = ((P.gw i f : ℝ) : EReal))
  (hgb : ∀ f, gb (ix2 (0 : Fin 1) f) = ((P.gb i f : ℝ) : EReal)) (hms : ∀ f, ms (ix2 (0 : Fin 1) f) = ((P.ms i f : ℝ) : EReal))

include hx hw hcb in
/-- The convolution of the layer, of the value and its three further Chebyshev terms. -/
theorem convolve_nodes (x1 x2 x3 : FVec Ideal S1x100000x128 .f32) (h1 : IsNodes (Params.T1 X) x1) (h2 : IsNodes (Params.T2 X) x2) (h3 : IsNodes (Params.T3 X) x3) :
    IsNodes (P.conv i X) (convolve x x1 x2 x3 w cb) := by
  intro n f
  rw [convolve_at, everyNode_at, hcb, apply_nodes X (P.W i 0) x _ hx (fun e f => (mat0_at w e f).trans (hw 0 e f)),
    apply_nodes _ (P.W i 1) x1 _ h1 (fun e f => (mat1_at w e f).trans (hw 1 e f)),
    apply_nodes _ (P.W i 2) x2 _ h2 (fun e f => (mat2_at w e f).trans (hw 2 e f)),
    apply_nodes _ (P.W i 3) x3 _ h3 (fun e f => (mat3_at w e f).trans (hw 3 e f))]
  simp only [← EReal.coe_add]
  rfl

include hms in
theorem centred_nodes (y : FVec Ideal S1x100000x128 .f32) (hy : IsNodes (P.conv i X) y) : IsNodes (P.cen i X) (centred y ms) := by
  intro n f
  rw [centred_at, graphMean_at y n f _ (hy n f), everyNode_at, hms, hy, ← EReal.coe_mul, ← EReal.coe_sub]
  rfl

include hgw hgb in
theorem normalised_nodes (o g : FVec Ideal S1x100000x128 .f32) (ho : IsNodes (P.cen i X) o) (e : g = normalised o gw gb) : IsNodes (P.rg i X) g := by
  intro n f
  rw [e]
  have h : mulf o o (ix3 (0 : Fin 1) n f) = ((P.cen i X (n.val : ℤ) f * P.cen i X (n.val : ℤ) f : ℝ) : EReal) := by
    rw [EReal.coe_mul, ← ho]; rfl
  rw [normalised_at, graphMean_at _ n f _ h, everyNode_at, everyNode_at, hgw, hgb, ho, EReal.coe_mul]
  refine Eq.trans ?_ (Scalars.quot_coe (P.gw i f) (P.gb i f) (P.cen i X (n.val : ℤ) f))
  rw [Consts.ofBits_one, zero_add, ← EReal.coe_mul (P.cen i X (n.val : ℤ) f), Scalars.div_real _ (1 : ℝ) one_ne_zero, div_one]

theorem rectified_nodes (g : FVec Ideal S1x100000x128 .f32) (hg : IsNodes (P.rg i X) g) : IsNodes (P.rstep i X) (rectified g) := by
  intro n f
  rw [rectified_at g n f _ (hg n f)]
  exact congrArg (fun t : ℝ => (t : EReal)) (if_neg (not_lt.2 (Int.natCast_nonneg _))).symm

include hx hw hcb hms in
/-- A whole layer up to its centring: the propagations, the convolution and the mean's subtraction. -/
theorem layer_nodes (r s : IVec S199999 32) (nw : FVec Ideal S199999 .f32) (hr : r = loops from1) (hs : s = loops to1)
    (hnw : ∀ e : Fin 199999, nw (ix1 e) = (((if e.val < 99998 then -1 else 0 : ℝ)) : EReal))
    (x1 x2 y o : FVec Ideal S1x100000x128 .f32) (e1 : x1 = propagate r s nw x) (e2 : x2 = twiceLess (propagate r s nw x1) x)
    (e3 : y = convolve x x1 x2 (twiceLess (propagate r s nw x2) x1) w cb) (e4 : o = centred y ms) : IsNodes (P.cen i X) o := by
  have h1 : IsNodes (Params.T1 X) x1 := e1 ▸ propagate_nodes r s nw hr hs hnw X x hx
  have h2 : IsNodes (Params.T2 X) x2 := e2 ▸ twiceLess_nodes _ _ _ _ (propagate_nodes r s nw hr hs hnw _ x1 h1) hx
  have h3 : IsNodes (Params.T3 X) (twiceLess (propagate r s nw x2) x1) := twiceLess_nodes _ _ _ _ (propagate_nodes r s nw hr hs hnw _ x2 h2) h1
  rw [e4]
  refine centred_nodes P i X ms hms y ?_
  rw [e3]
  exact convolve_nodes P i X x hx w hw cb hcb x1 x2 _ h1 h2 h3

end

/-! ## The pool, the linear layer and the softplus -/

/-- The input plus the last layer's value, rectified. -/
abbrev residual (x g : FVec Ideal S1x100000x128 .f32) : FVec Ideal S1x100000x128 .f32 :=
  maximumf (addf x g) (broadcastInDim S1x100000x128 ![] bcast_S_S1x100000x128 (constant S_ .f32 0x00000000#32))

theorem residual_at (x g : FVec Ideal S1x100000x128 .f32) (n : Fin 100000) (f : Fin 128) :
    residual x g (ix3 (0 : Fin 1) n f) = max (x (ix3 (0 : Fin 1) n f) + g (ix3 (0 : Fin 1) n f)) 0 := by
  pointwise [residual]

theorem residual_nodes (P : Params) (x g : FVec Ideal S1x100000x128 .f32) (hx : IsNodes P.x0 x) (hg : IsNodes (P.rg 3 P.R3) g) :
    IsNodes P.R4 (residual x g) := by
  intro n f
  rw [residual_at, hx, hg, ← EReal.coe_add, ← EReal.coe_zero, Scalars.coe_max]
  rfl

/-- The mean over the nodes. -/
abbrev pooled (x : FVec Ideal S1x100000x128 .f32) : FVec Ideal S128 .f32 :=
  shapeCast S128 (Host.divf (Host.reduceAdd x (constant S_ .f32 0x00000000#32) reducesTo_S1x100000x128_S1x128_d1 h_S_)
    (broadcastInDim S1x128 ![] bcast_S_S1x128 (constant S_ .f32 0x47C35000#32))) shapeCasts_S1x128_S128

theorem pooled_at (x : FVec Ideal S1x100000x128 .f32) (f : Fin 128) :
    pooled x (ix1 f) = Ideal.div (∑ n : Fin 100000, x (ix3 (0 : Fin 1) n f)) (Ideal.ofBits .f32 0x47C35000#32) := by
  pointwise [pooled]

theorem pooled_nodes (P : Params) (x : FVec Ideal S1x100000x128 .f32) (hx : IsNodes P.R4 x) (f : Fin 128) :
    pooled x (ix1 f) = ((P.total f * eps : ℝ) : EReal) := by
  rw [pooled_at, Consts.ofBits_nodes, show (∑ n : Fin 100000, x (ix3 (0 : Fin 1) n f)) = ((P.total f : ℝ) : EReal) from ?_, Scalars.div_real _ _ (by norm_num)]
  · refine congrArg (fun t : ℝ => (t : EReal)) ?_
    unfold eps
    ring
  · rw [← P.sum_R4 f, ← coe_sum, ← Fin.sum_univ_eq_sum_range (fun n : ℕ => ((P.R4 (n : ℤ) f : ℝ) : EReal))]
    exact Finset.sum_congr rfl fun n _ => hx n f

/-- The linear layer. -/
abbrev linear (p : FVec Ideal S128 .f32) (w : FVec Ideal S128x128 .f32) (b : FVec Ideal S128 .f32) : FVec Ideal S128 .f32 :=
  addf (Host.dotGeneral dot_S128_S128x128_S128_0_0_n_1_n_n none p (transpose S128x128 [1, 0] w transposes_S128x128_S128x128_1_0)) b

theorem linear_at (p : FVec Ideal S128 .f32) (w : FVec Ideal S128x128 .f32) (b : FVec Ideal S128 .f32) (f : Fin 128) :
    linear p w b (ix1 f) = (∑ e : Fin 128, p (ix1 e) * w (ix2 f e)) + b (ix1 f) := by
  pointwise [linear]

/-- The softplus of a vector. -/
abbrev soft (z : FVec Ideal S_ .f32) (t d : FVec Ideal S128 .f32) : FVec Ideal S128 .f32 :=
  select (cmpf .une d d) (addf t (broadcastInDim S128 ![] bcast_S_S128 z))
    (addf (maximumf t (broadcastInDim S128 ![] bcast_S_S128 z)) (Host.log1p (Host.exp (Host.negf (Host.absf d)))))

theorem soft_at (t : FVec Ideal S128 .f32) (f : Fin 128) :
    soft (constant S_ .f32 0x00000000#32) t (subf t (broadcastInDim S128 ![] bcast_S_S128 (constant S_ .f32 0x00000000#32))) (ix1 f)
      = max (t (ix1 f)) 0 + Ideal.log1p (Ideal.exp (0 - max (t (ix1 f)) (-t (ix1 f)))) := by
  pointwise [soft]
  rw [if_neg (not_not.2 rfl), zero_sub]
  rfl

end Cert.ReferenceIdeal.RefLayer

end
-- ==== Proof.RefValue.lean ====
/-
  The reference's result over the reals: the four layers in order, the pool and the linear layer, at every index.
-/
module

public import proofs.«01_k».proof.Proof.RefLayer
public import proofs.«01_k».proof.Proof.Gen.ReferenceIdeal.Run

@[expose] public section

set_option maxRecDepth 16384

noncomputable section

namespace Cert.ReferenceIdeal.RefValue

open Idealize.ShloMosaic Idealize.ShloMosaic.TcCoe Cert.ReferenceIdeal Cert.ReferenceIdeal.Gen Cert.ReferenceIdeal.Value Cert.ReferenceIdeal.Edges
  Cert.ReferenceIdeal.RefLayer Cert.Net

variable (V : Valuation τ sig (Elt Ideal))

/-- The arguments, as vectors. -/
abbrev a0 : FVec Ideal S1x100000x128 .f32 := V (Proc.devRef .tc main_arg0)
abbrev a1 : FVec Ideal S4x4x128x128 .f32 := V (Proc.devRef .tc main_arg1)
abbrev a2 : FVec Ideal S4x128 .f32 := V (Proc.devRef .tc main_arg2)
abbrev a3 : FVec Ideal S4x128 .f32 := V (Proc.devRef .tc main_arg3)
abbrev a4 : FVec Ideal S4x128 .f32 := V (Proc.devRef .tc main_arg4)
abbrev a5 : FVec Ideal S4x128 .f32 := V (Proc.devRef .tc main_arg5)
abbrev a6 : FVec Ideal S128x128 .f32 := V (Proc.devRef .tc main_arg6)
abbrev a7 : FVec Ideal S128 .f32 := V (Proc.devRef .tc main_arg7)

/-! ## The edges -/

theorem sources : res_main_v39 V = loops from1 := rfl
theorem targets : res_main_v41 V = loops to1 := rfl
theorem edges : res_main_v44 V = weights (root degree) := rfl

theorem edges_at (e : Fin 199999) : (res_main_v44 V : FVec Ideal S199999 .f32) (ix1 e) = (((if e.val < 99998 then -1 else 0 : ℝ)) : EReal) := by
  rw [edges]
  exact weights_at e

/-! ## The four layers -/

section

variable (P : Params) (hP : Reals.Real P (a0 V) (a1 V) (a2 V) (a3 V) (a4 V) (a5 V))
include hP

theorem input : IsNodes P.x0 (a0 V) := by
  intro n f
  rw [hP.x, Params.x0, dif_pos ⟨by omega, by omega⟩]
  rfl

theorem centre0 : IsNodes (P.cen 0 P.x0) (res_main_v141 V) :=
  layer_nodes P 0 P.x0 (a0 V) (input V P hP) (res_main_v46 V)
    (fun k e f => (mats0 (a1 V) k e f).trans (hP.W 0 k e f))
    (extractStridedSlice S1x128 ![0, 0] (a2 V) slices_S4x128_S1x128_0_0) (extractStridedSlice S1x128 ![0, 0] (a5 V) slices_S4x128_S1x128_0_0)
    (fun f => (row0 (a2 V) f).trans (hP.cb 0 f)) (fun f => (row0 (a5 V) f).trans (hP.ms 0 f))
    (res_main_v39 V) (res_main_v41 V) (res_main_v44 V) (sources V) (targets V) (edges_at V)
    (res_main_v69 V) (res_main_v94 V) (res_main_v126 V) (res_main_v141 V) rfl rfl rfl rfl

theorem norm0 : IsNodes (P.rg 0 P.x0) (res_main_v156 V) :=
  normalised_nodes P 0 P.x0 (extractStridedSlice S1x128 ![0, 0] (a3 V) slices_S4x128_S1x128_0_0) (extractStridedSlice S1x128 ![0, 0] (a4 V) slices_S4x128_S1x128_0_0)
    (fun f => (row0 (a3 V) f).trans (hP.gw 0 f)) (fun f => (row0 (a4 V) f).trans (hP.gb 0 f)) (res_main_v141 V) (res_main_v156 V) (centre0 V P hP) rfl

theorem layer0 : IsNodes P.R1 (res_main_v161 V) :=
  rectified_nodes P 0 P.x0 (res_main_v156 V) (norm0 V P hP)

theorem centre1 : IsNodes (P.cen 1 P.R1) (res_main_v258 V) :=
  layer_nodes P 1 P.R1 (res_main_v161 V) (layer0 V P hP) (res_main_v163 V)
    (fun k e f => (mats1 (a1 V) k e f).trans (hP.W 1 k e f))
    (extractStridedSlice S1x128 ![1, 0] (a2 V) slices_S4x128_S1x128_1_0) (extractStridedSlice S1x128 ![1, 0] (a5 V) slices_S4x128_S1x128_1_0)
    (fun f => (row1 (a2 V) f).trans (hP.cb 1 f)) (fun f => (row1 (a5 V) f).trans (hP.ms 1 f))
    (res_main_v39 V) (res_main_v41 V) (res_main_v44 V) (sources V) (targets V) (edges_at V)
    (res_main_v186 V) (res_main_v211 V) (res_main_v243 V) (res_main_v258 V) rfl rfl rfl rfl

theorem norm1 : IsNodes (P.rg 1 P.R1) (res_main_v273 V) :=
  normalised_nodes P 1 P.R1 (extractStridedSlice S1x128 ![1, 0] (a3 V) slices_S4x128_S1x128_1_0) (extractStridedSlice S1x128 ![1, 0] (a4 V) slices_S4x128_S1x128_1_0)
    (fun f => (row1 (a3 V) f).trans (hP.gw 1 f)) (fun f => (row1 (a4 V) f).trans (hP.gb 1 f)) (res_main_v258 V) (res_main_v273 V) (centre1 V P hP) rfl

theorem layer1 : IsNodes P.R2 (res_main_v278 V) :=
  rectified_nodes P 1 P.R1 (res_main_v273 V) (norm1 V P hP)

theorem centre2 : IsNodes (P.cen 2 P.R2) (res_main_v375 V) :=
  layer_nodes P 2 P.R2 (res_main_v278 V) (layer1 V P hP) (res_main_v280 V)
    (fun k e f => (mats2 (a1 V) k e f).trans (hP.W 2 k e f))
    (extractStridedSlice S1x128 ![2, 0] (a2 V) slices_S4x128_S1x128_2_0) (extractStridedSlice S1x128 ![2, 0] (a5 V) slices_S4x128_S1x128_2_0)
    (fun f => (row2 (a2 V) f).trans (hP.cb 2 f)) (fun f => (row2 (a5 V) f).trans (hP.ms 2 f))
    (res_main_v39 V) (res_main_v41 V) (res_main_v44 V) (sources V) (targets V) (edges_at V)
    (res_main_v303 V) (res_main_v328 V) (res_main_v360 V) (res_main_v375 V) rfl rfl rfl rfl

theorem norm2 : IsNodes (P.rg 2 P.R2) (res_main_v390 V) :=
  normalised_nodes P 2 P.R2 (extractStridedSlice S1x128 ![2, 0] (a3 V) slices_S4x128_S1x128_2_0) (extractStridedSlice S1x128 ![2, 0] (a4 V) slices_S4x128_S1x128_2_0)
    (fun f => (row2 (a3 V) f).trans (hP.gw 2 f)) (fun f => (row2 (a4 V) f).trans (hP.gb 2 f)) (res_main_v375 V) (res_main_v390 V) (centre2 V P hP) rfl

theorem layer2 : IsNodes P.R3 (res_main_v395 V) :=
  rectified_nodes P 2 P.R2 (res_main_v390 V) (norm2 V P hP)

theorem centre3 : IsNodes (P.cen 3 P.R3) (res_main_v492 V) :=
  layer_nodes P 3 P.R3 (res_main_v395 V) (layer2 V P hP) (res_main_v397 V)
    (fun k e f => (mats3 (a1 V) k e f).trans (hP.W 3 k e f))
    (extractStridedSlice S1x128 ![3, 0] (a2 V) slices_S4x128_S1x128_3_0) (extractStridedSlice S1x128 ![3, 0] (a5 V) slices_S4x128_S1x128_3_0)
    (fun f => (row3 (a2 V) f).trans (hP.cb 3 f)) (fun f => (row3 (a5 V) f).trans (hP.ms 3 f))
    (res_main_v39 V) (res_main_v41 V) (res_main_v44 V) (sources V) (targets V) (edges_at V)
    (res_main_v420 V) (res_main_v445 V) (res_main_v477 V) (res_main_v492 V) rfl rfl rfl rfl

omit hP in
/-- The last layer's value, which the reference does not name. -/
def lastValue : FVec Ideal S1x100000x128 .f32 :=
  normalised (res_main_v492 V) (extractStridedSlice S1x128 ![3, 0] (a3 V) slices_S4x128_S1x128_3_0) (extractStridedSlice S1x128 ![3, 0] (a4 V) slices_S4x128_S1x128_3_0)

/-- Every array that is the last centred value normalised holds the last layer's value. -/
theorem norm3_of (g o : FVec Ideal S1x100000x128 .f32) (ho : IsNodes (P.cen 3 P.R3) o) (e : g = normalised o (extractStridedSlice S1x128 ![3, 0] (a3 V) slices_S4x128_S1x128_3_0) (extractStridedSlice S1x128 ![3, 0] (a4 V) slices_S4x128_S1x128_3_0)) : IsNodes (P.rg 3 P.R3) g := by
  have key := normalised_nodes P 3 P.R3 (extractStridedSlice S1x128 ![3, 0] (a3 V) slices_S4x128_S1x128_3_0) (extractStridedSlice S1x128 ![3, 0] (a4 V) slices_S4x128_S1x128_3_0)
    (fun f => (row3 (a3 V) f).trans (hP.gw 3 f)) (fun f => (row3 (a4 V) f).trans (hP.gb 3 f)) o g ho
  exact key e

omit hP in
theorem lastValue_eq : lastValue V = normalised (res_main_v492 V) (extractStridedSlice S1x128 ![3, 0] (a3 V) slices_S4x128_S1x128_3_0) (extractStridedSlice S1x128 ![3, 0] (a4 V) slices_S4x128_S1x128_3_0) := by
  unfold lastValue
  exact Eq.refl _

theorem norm3 : IsNodes (P.rg 3 P.R3) (lastValue V) := by
  have key := norm3_of V P hP (lastValue V) (res_main_v492 V) (centre3 V P hP)
  exact key (lastValue_eq V)

/-! ## The result -/

omit hP in
theorem linear_eq : res_main_v516 V = linear (pooled (residual (a0 V) (lastValue V))) (a6 V) (a7 V) := rfl

/-- The linear layer of the mean. -/
theorem linear_value (f : Fin 128) : (res_main_v516 V : FVec Ideal S128 .f32) (ix1 f)
    = (∑ e : Fin 128, ((P.total e * eps : ℝ) : EReal) * a6 V (ix2 f e)) + a7 V (ix1 f) := by
  rw [linear_eq, linear_at]
  refine congrArg (fun t => t + a7 V (ix1 f)) (Finset.sum_congr rfl fun e _ => ?_)
  rw [pooled_nodes P _ (residual_nodes P _ _ (input V P hP) (norm3 V P hP)) e]

end

/-- The result: the softplus of the linear layer. -/
abbrev result : FVec Ideal S128 .f32 :=
  soft (res_main_call6_cst V) (res_main_v516 V) (res_main_call6_v3 V)

theorem result_value (P : Params) (hP : Reals.Real P (a0 V) (a1 V) (a2 V) (a3 V) (a4 V) (a5 V)) (f : Fin 128) (t : EReal)
    (ht : t = (∑ e : Fin 128, ((P.total e * eps : ℝ) : EReal) * a6 V (ix2 f e)) + a7 V (ix1 f)) :
    result V (ix1 f) = max t 0 + Ideal.log1p (Ideal.exp (0 - max t (-t))) := by
  have e := soft_at (res_main_v516 V) f
  rw [linear_value V P hP f, ← ht] at e
  exact e

end Cert.ReferenceIdeal.RefValue

end
-- ==== Proof.lean ====
/-
  The certificate: the kernel, its idealized form and the reference run and leave their arguments and every semaphore
  as they were; the one constant named stands for its real number; and at real numbers, from equal finite arguments, the
  idealized kernel and the reference end with equal results. The kernel's value is `KernelRun.value`, the reference's is
  `RefValue.result_value`; both are the softplus of the linear layer applied to `Params.total`, the sum over the nodes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_args
public import proofs.«01_k».proof.Proof.Gen.ReferenceIdeal.Run
public import proofs.«01_k».proof.Proof.KernelRun
public import proofs.«01_k».proof.Proof.RefValue
public import proofs.«01_k».proof.Proof.Pre
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.ShloMosaic.StableHlo Idealize.SL.Sem Cert.Net

/-! ## The frames -/

/-- The kernel runs, its arguments end unchanged and its semaphores at zero. -/
theorem kernel_quiescent : quiescent_Kernel (hKernel := Cert.Kernel.Gen.facts) := fun m ρ _ => Cert.Kernel.Gen.frame m ρ

/-- The same of the idealized kernel. -/
theorem ideal_quiescent : quiescent_KernelIdeal (hKernelIdeal := Cert.KernelIdeal.Gen.facts) := fun m ρ _ => Cert.KernelIdeal.Gen.frame m ρ

/-- The same of the idealized kernel, under the precondition. -/
theorem ideal_quiescent_pre : quiescent_KernelIdeal_pre_finite_args (hKernelIdeal := Cert.KernelIdeal.Gen.facts) (hPre_finite_args := Cert.Pre_finite_args.Gen.facts) :=
  fun m ρ _ => Cert.KernelIdeal.Gen.frame m ρ

/-- The reference runs, its arguments end unchanged and its semaphores at zero: its module has none. -/
theorem reference_quiescent : quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the reference, under the precondition. -/
theorem reference_quiescent_pre :
    quiescent_ReferenceIdeal_pre_finite_args (hReferenceIdeal := Cert.ReferenceIdeal.Gen.facts) (hPre_finite_args := Cert.Pre_finite_args.Gen.facts) :=
  fun m ρ _ => reference_quiescent m ρ trivial

/-! ## The named constant -/

/-- The one constant the idealized kernel names, the float nearest 1/100000, stands for 1/100000. -/
theorem constant_named : preserves_Kernel_KernelIdeal :=
  IdealRules.named_const.statement Cert.KernelIdeal.κ "hundred_thousandth" .f32 0x3727C5AC#32 ((1 / 100000 : ℝ) : EReal) rfl

/-! ## The values -/

/-- Arrays equal to real ones are real. -/
theorem real_of_eq {P : Params} {a0 b0 : FVec Ideal Cert.ReferenceIdeal.S1x100000x128 .f32} {a1 b1 : FVec Ideal Cert.ReferenceIdeal.S4x4x128x128 .f32}
    {a2 a3 a4 a5 b2 b3 b4 b5 : FVec Ideal Cert.ReferenceIdeal.S4x128 .f32} (e0 : b0 = a0) (e1 : b1 = a1) (e2 : b2 = a2) (e3 : b3 = a3)
    (e4 : b4 = a4) (e5 : b5 = a5) (h : Reals.Real P a0 a1 a2 a3 a4 a5) : Reals.Real P b0 b1 b2 b3 b4 b5 := by
  subst e0 e1 e2 e3 e4 e5
  exact h

/-- The linear layer of equal weights and biases. -/
theorem linear_of_eq (P : Params) {w w' : FVec Ideal Cert.ReferenceIdeal.S128x128 .f32} {b b' : FVec Ideal Cert.ReferenceIdeal.S128 .f32} (ew : w' = w) (eb : b' = b)
    (f : Fin 128) : (∑ e : Fin 128, ((P.total e * eps : ℝ) : EReal) * w (ix2 f e)) + b (ix1 f)
      = (∑ e : Fin 128, ((P.total e * eps : ℝ) : EReal) * w' (ix2 f e)) + b' (ix1 f) := by
  subst ew eb
  rfl

/-- From equal finite arguments the reference's result is the kernel's, at every index. -/
theorem values_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (P : Params) (hP : Cert.KernelIdeal.Blocks.Args m c P)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.RefValue.result (launchContents m' c) = Cert.KernelIdeal.KernelRun.head (Cert.KernelIdeal.KernelRun.row m c) := by
  have key : ∀ f : Fin 128, Cert.ReferenceIdeal.RefValue.result (launchContents m' c) (ix1 f)
      = Cert.KernelIdeal.KernelRun.head (Cert.KernelIdeal.KernelRun.row m c) (ix1 f) := fun f => by
    have hK := Cert.KernelIdeal.KernelRun.value m c P hP f
    have hR := Cert.ReferenceIdeal.RefValue.result_value (launchContents m' c) P (real_of_eq h0 h1 h2 h3 h4 h5 hP) f _ (linear_of_eq P h6 h7 f)
    exact hR.trans hK.symm
  funext j
  rw [eq_ix1 j]
  exact key (j 0)

/-- At real numbers, from equal arguments whose every element is finite, the idealized kernel and the reference end
    with equal results and unchanged arguments. -/
theorem algebraic : algebraic_KernelIdeal_ReferenceIdeal_pre_finite_args (hKernelIdeal := Cert.KernelIdeal.Gen.facts)
    (hReferenceIdeal := Cert.ReferenceIdeal.Gen.facts) (hPre_finite_args := Cert.Pre_finite_args.Gen.facts) := by
  intro m ρ m' ρ' hpre hagree
  refine ⟨fun c => Cert.KernelIdeal.KernelRun.head (Cert.KernelIdeal.KernelRun.row m c),
    (θ_run Cert.KernelIdeal.defs _ _).mono (fun r h c => ⟨h.1 c, h.2 c⟩) (Cert.KernelIdeal.KernelRun.run m ρ),
    (θ_run Cert.ReferenceIdeal.defs _ _).mono (fun r h c => ⟨(h c).1.trans ?_, (h c).2⟩) (Cert.ReferenceIdeal.Value.run (F := Ideal) m' ρ')⟩
  obtain ⟨h0, h1, h2, h3, h4, h5, h6, h7⟩ := hagree c
  exact values_agree m m' c _ (Reals.of_pre _ _ _ _ _ _ _ _ (hpre c)) h0 h1 h2 h3 h4 h5 h6 h7

/-- Every claim of the certificate. -/
theorem claim : Cert.Claim :=
  ⟨Cert.Kernel.Gen.facts, Cert.KernelIdeal.Gen.facts, Cert.ReferenceIdeal.Gen.facts, Cert.Pre_finite_args.Gen.facts, kernel_quiescent, ideal_quiescent,
    ideal_quiescent_pre, reference_quiescent, reference_quiescent_pre, constant_named, algebraic⟩

end Cert.Proof

end
